-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16384x8192 : Shape := ⟨3, ![2, 16384, 8192]⟩
abbrev S32 : Shape := ⟨1, ![32]⟩
abbrev S2x16384x1024 : Shape := ⟨3, ![2, 16384, 1024]⟩
abbrev S4 : Shape := ⟨1, ![4]⟩
abbrev S4x8 : Shape := ⟨2, ![4, 8]⟩
abbrev S4x1 : Shape := ⟨2, ![4, 1]⟩
abbrev S_ : Shape := ⟨0, ![]⟩
abbrev S2x16384x4x256 : Shape := ⟨4, ![2, 16384, 4, 256]⟩
abbrev S2x4x256x16384 : Shape := ⟨4, ![2, 4, 256, 16384]⟩
abbrev S1x256x256 : Shape := ⟨3, ![1, 256, 256]⟩
abbrev S1x16384x256 : Shape := ⟨3, ![1, 16384, 256]⟩
abbrev S1x1x256x16384 : Shape := ⟨4, ![1, 1, 256, 16384]⟩
abbrev S16384x256 : Shape := ⟨2, ![16384, 256]⟩
abbrev S32x1x256 : Shape := ⟨3, ![32, 1, 256]⟩
abbrev S1 : Shape := ⟨1, ![1]⟩
abbrev S256x256 : Shape := ⟨2, ![256, 256]⟩
abbrev S1x256 : Shape := ⟨2, ![1, 256]⟩
abbrev S1x512x256 : Shape := ⟨3, ![1, 512, 256]⟩
abbrev S512x256 : Shape := ⟨2, ![512, 256]⟩
abbrev S256 : Shape := ⟨1, ![256]⟩
abbrev S1x1x256 : Shape := ⟨3, ![1, 1, 256]⟩
abbrev S1x1x256x512 : Shape := ⟨4, ![1, 1, 256, 512]⟩
abbrev S256x512 : Shape := ⟨2, ![256, 512]⟩

abbrev nBuf : Space → Nat
  | .hbm => 20
  | .vmem => 10
  | .smem => 2
  | _ => 0

abbrev bufTy : (tb : Table) → Fin (tcTables nBuf tb) → BufTy
  | .hbm, ⟨0, _⟩ => ⟨S2x16384x8192, .fp8e4m3⟩
  | .hbm, ⟨1, _⟩ => ⟨S32, .f32⟩
  | .hbm, ⟨2, _⟩ => ⟨S2x16384x1024, .fp8e4m3⟩
  | .hbm, ⟨3, _⟩ => ⟨S4, .f32⟩
  | .hbm, ⟨4, _⟩ => ⟨S2x16384x1024, .fp8e4m3⟩
  | .hbm, ⟨5, _⟩ => ⟨S4, .f32⟩
  | .hbm, ⟨6, _⟩ => ⟨S4x8, .f32⟩
  | .hbm, ⟨7, _⟩ => ⟨S4x1, .f32⟩
  | .hbm, ⟨8, _⟩ => ⟨S4x8, .f32⟩
  | .hbm, ⟨9, _⟩ => ⟨S4x8, .f32⟩
  | .hbm, ⟨10, _⟩ => ⟨S_, .f32⟩
  | .hbm, ⟨11, _⟩ => ⟨S4x8, .f32⟩
  | .hbm, ⟨12, _⟩ => ⟨S4x8, .f32⟩
  | .hbm, ⟨13, _⟩ => ⟨S32, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S2x16384x4x256, .fp8e4m3⟩
  | .hbm, ⟨18, _⟩ => ⟨S2x4x256x16384, .fp8e4m3⟩
  | .hbm, ⟨19, _⟩ => ⟨S2x16384x8192, .bf16⟩
  | .local _ .vmem, ⟨0, _⟩ => ⟨S1x256x256, .fp8e4m3⟩
  | .local _ .vmem, ⟨1, _⟩ => ⟨S1x256x256, .fp8e4m3⟩
  | .local _ .vmem, ⟨2, _⟩ => ⟨S1x16384x256, .fp8e4m3⟩
  | .local _ .vmem, ⟨3, _⟩ => ⟨S1x16384x256, .fp8e4m3⟩
  | .local _ .vmem, ⟨4, _⟩ => ⟨S1x1x256x16384, .fp8e4m3⟩
  | .local _ .vmem, ⟨5, _⟩ => ⟨S1x1x256x16384, .fp8e4m3⟩
  | .local _ .vmem, ⟨6, _⟩ => ⟨S1x256x256, .bf16⟩
  | .local _ .vmem, ⟨7, _⟩ => ⟨S1x256x256, .bf16⟩
  | .local _ .vmem, ⟨8, _⟩ => ⟨S16384x256, .f32⟩
  | .local _ .vmem, ⟨9, _⟩ => ⟨S32x1x256, .f32⟩
  | .local _ .smem, ⟨0, _⟩ => ⟨S32, .f32⟩
  | .local _ .smem, ⟨1, _⟩ => ⟨S4, .f32⟩
  | _, _ => ⟨S2x16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![2, 4, 64, 8], ![false, false, false, false]⟩

def k0_off1 (i : grid0.Coords) : Fin 1 → Nat :=
  let arg1 : BitVec 32 := BitVec.ofNat 32 (i 1).val
  let c8_i32 : BitVec 32 := 8#32
  let v0 : BitVec 32 := Scalar.muli arg1 c8_i32
  let arg3 : BitVec 32 := BitVec.ofNat 32 (i 3).val
  let v1 : BitVec 32 := Scalar.addi v0 arg3
  let v2 : Index := Scalar.indexCast v1
  ![v2.toNat]
@[reducible] def k0_t1_loop : Scf.Loop 32 :=
  let c0_i32 : BitVec 32 := 0#32
  let c32_i32 : BitVec 32 := 32#32
  let v9 : BitVec 32 := Scalar.addi c0_i32 c32_i32
  let c1_i32 : BitVec 32 := 1#32
  ⟨c0_i32, v9, c1_i32⟩
def k0_off2 (k0_t1 : Fin k0_t1_loop.trips) : Fin 3 → Nat :=
  let c0_14 : Index := 0#32
  let c0_i32 : BitVec 32 := 0#32
  let c1_i32 : BitVec 32 := 1#32
  let arg12 : BitVec 32 := Scf.iv c0_i32 c1_i32 k0_t1
  let c512_i32 : BitVec 32 := 512#32
  let v25 : BitVec 32 := Scalar.muli arg12 c512_i32
  let v26 : Index := Scalar.indexCast v25
  let c0_15 : Index := 0#32
  ![0, v26.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v25 : BitVec 32 := Scalar.muli arg12 c512_i32
  let v44 : Index := Scalar.indexCast v25
  let c0_19 : Index := 0#32
  ![v44.toNat, 0]
def k0_off4 (k0_t1 : Fin k0_t1_loop.trips) : Fin 3 → Nat :=
  let c0_i32 : BitVec 32 := 0#32
  let c1_i32 : BitVec 32 := 1#32
  let arg12 : BitVec 32 := Scf.iv c0_i32 c1_i32 k0_t1
  let v48 : Index := Scalar.indexCast arg12
  let c0_20 : Index := 0#32
  let c0_21 : Index := 0#32
  ![v48.toNat, 0, 0]
@[reducible] def k0_t2_loop : Scf.Loop 32 :=
  let c0_i32_7 : BitVec 32 := 0#32
  let c32_i32_8 : BitVec 32 := 32#32
  let v14 : BitVec 32 := Scalar.addi c0_i32_7 c32_i32_8
  let c1_i32_9 : BitVec 32 := 1#32
  ⟨c0_i32_7, v14, c1_i32_9⟩
def k0_off5 (k0_t2 : Fin k0_t2_loop.trips) : Fin 3 → Nat :=
  let c0_i32_7 : BitVec 32 := 0#32
  let c1_i32_9 : BitVec 32 := 1#32
  let arg12 : BitVec 32 := Scf.iv c0_i32_7 c1_i32_9 k0_t2
  let v26 : Index := Scalar.indexCast arg12
  let c0_14 : Index := 0#32
  let c0_15 : Index := 0#32
  ![v26.toNat, 0, 0]
def k0_off6 (k0_t2 : Fin k0_t2_loop.trips) : Fin 2 → Nat :=
  let c0_i32_7 : BitVec 32 := 0#32
  let c1_i32_9 : BitVec 32 := 1#32
  let arg12 : BitVec 32 := Scf.iv c0_i32_7 c1_i32_9 k0_t2
  let c512_i32 : BitVec 32 := 512#32
  let v25 : BitVec 32 := Scalar.muli arg12 c512_i32
  let v32 : Index := Scalar.indexCast v25
  let c0_16 : Index := 0#32
  ![v32.toNat, 0]
def k0_off7 (k0_t2 : Fin k0_t2_loop.trips) : Fin 4 → Nat :=
  let c0_19 : Index := 0#32
  let c0_20 : Index := 0#32
  let c0_21 : Index := 0#32
  let c0_i32_7 : BitVec 32 := 0#32
  let c1_i32_9 : BitVec 32 := 1#32
  let arg12 : BitVec 32 := Scf.iv c0_i32_7 c1_i32_9 k0_t2
  let c512_i32 : BitVec 32 := 512#32
  let v25 : BitVec 32 := Scalar.muli arg12 c512_i32
  let v41 : Index := Scalar.indexCast v25
  ![0, 0, 0, v41.toNat]
def k0_off8 (i : grid0.Coords) : Fin 1 → Nat :=
  let arg1 : BitVec 32 := BitVec.ofNat 32 (i 1).val
  let v16 : Index := Scalar.indexCast arg1
  ![v16.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  ![arg0.toNat, arg2.toNat, v1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 2 → Memref sig .tc .vmem S1x256x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x16384x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x1x256x16384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x16384x8192 : Shape := ⟨3, ![2, 16384, 8192]⟩
abbrev S32 : Shape := ⟨1, ![32]⟩
abbrev S2x16384x1024 : Shape := ⟨3, ![2, 16384, 1024]⟩
abbrev S4 : Shape := ⟨1, ![4]⟩
abbrev S2x16384x4x8x256 : Shape := ⟨5, ![2, 16384, 4, 8, 256]⟩
abbrev S2x16384x4x256 : Shape := ⟨4, ![2, 16384, 4, 256]⟩
abbrev S4x8 : Shape := ⟨2, ![4, 8]⟩
abbrev S4x1 : Shape := ⟨2, ![4, 1]⟩
abbrev S4x8x1x1 : Shape := ⟨4, ![4, 8, 1, 1]⟩
abbrev S4x1x1 : Shape := ⟨3, ![4, 1, 1]⟩
abbrev S2x4x16384x16384x8 : Shape := ⟨5, ![2, 4, 16384, 16384, 8]⟩
abbrev S2x4x8x16384x16384 : Shape := ⟨5, ![2, 4, 8, 16384, 16384]⟩
abbrev S1x4x8x1x1 : Shape := ⟨5, ![1, 4, 8, 1, 1]⟩
abbrev S2x4x8x16384 : Shape := ⟨4, ![2, 4, 8, 16384]⟩
abbrev S2x4x8x16384x1 : Shape := ⟨5, ![2, 4, 8, 16384, 1]⟩
abbrev S2x4x256x8x16384 : Shape := ⟨5, ![2, 4, 256, 8, 16384]⟩
abbrev S1x1x4x1x1 : Shape := ⟨5, ![1, 1, 4, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x16384x8192, .fp8e4m3⟩
  | .hbm, ⟨1, _⟩ => ⟨S32, .f32⟩
  | .hbm, ⟨2, _⟩ => ⟨S2x16384x1024, .fp8e4m3⟩
  | .hbm, ⟨3, _⟩ => ⟨S4, .f32⟩
  | .hbm, ⟨4, _⟩ => ⟨S2x16384x1024, .fp8e4m3⟩
  | .hbm, ⟨5, _⟩ => ⟨S4, .f32⟩
  | .hbm, ⟨6, _⟩ => ⟨S2x16384x8192, .bf16⟩
  | .local _ .vmem, ⟨0, _⟩ => ⟨S2x16384x8192, .fp8e4m3⟩
  | .local _ .vmem, ⟨1, _⟩ => ⟨S32, .f32⟩
  | .local _ .vmem, ⟨2, _⟩ => ⟨S2x16384x1024, .fp8e4m3⟩
  | .local _ .vmem, ⟨3, _⟩ => ⟨S4, .f32⟩
  | .local _ .vmem, ⟨4, _⟩ => ⟨S2x16384x1024, .fp8e4m3⟩
  | .local _ .vmem, ⟨5, _⟩ => ⟨S4, .f32⟩
  | .local _ .vmem, ⟨6, _⟩ => ⟨S2x16384x8192, .bf16⟩
  | _, _ => ⟨S2x16384x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x16384x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16384x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16384x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.PBody.lean ====
/- What one grid point of the printed kernel computes, as plain functions of its blocks (`state1`, `state2`, `outTile`), and the
   proof that the kernel body computes it: each counted loop by an invariant over its trips, the two scratch buffers
   described by the windows that the trips before have put there. -/
module

public import proofs.«01_k».proof.Proof.Gen.Kernel.Frame.Runs
public import Idealize.ShloMosaic.Lib.VecWindow
public import Idealize.ShloMosaic.Lib.WholeRead
public import Idealize.ShloMosaic.Lib.ValueIdx

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The point's value -/

theorem inbK (k : Fin 32) : ∀ a, (![0, 512 * k.val, 0] : Fin 3 → ℕ) a + S1x512x256.size a ≤ S1x16384x256.size a := by
  have := k.isLt
  intro a; fin_cases a
  · exact Nat.le_refl 1
  · show 512 * k.val + 512 ≤ 16384; omega
  · exact Nat.le_refl 256
theorem inbV (k : Fin 32) : ∀ a, (![0, 0, 0, 512 * k.val] : Fin 4 → ℕ) a + S1x1x256x512.size a ≤ S1x1x256x16384.size a := by
  have := k.isLt
  intro a; fin_cases a
  · exact Nat.le_refl 1
  · exact Nat.le_refl 1
  · exact Nat.le_refl 256
  · show 512 * k.val + 512 ≤ 16384; omega
theorem inbE (k : Fin 32) : ∀ a, (![512 * k.val, 0] : Fin 2 → ℕ) a + S512x256.size a ≤ S16384x256.size a := by
  have := k.isLt
  intro a; fin_cases a
  · show 512 * k.val + 512 ≤ 16384; omega
  · exact Nat.le_refl 256
theorem inbM (k : Fin 32) : ∀ a, (![k.val, 0, 0] : Fin 3 → ℕ) a + S1x1x256.size a ≤ S32x1x256.size a := by
  have := k.isLt
  intro a; fin_cases a
  · show k.val + 1 ≤ 32; omega
  · exact Nat.le_refl 1
  · exact Nat.le_refl 256

/-- The rows of the key block that trip `k` of the first pass reads. -/
def kChunk (x3 : Vec F S1x16384x256 .fp8e4m3) (k : Fin 32) : Vec F S1x512x256 .fp8e4m3 :=
  VecWindow.window x3 ![0, 512 * k.val, 0] S1x512x256.size (inbK k)

/-- The columns of the transposed value block that trip `k` of the second pass reads. -/
def vChunk (x4 : Vec F S1x1x256x16384 .fp8e4m3) (k : Fin 32) : Vec F S1x1x256x512 .fp8e4m3 :=
  VecWindow.window x4 ![0, 0, 0, 512 * k.val] S1x1x256x512.size (inbV k)

/-- The rows of the scratch of exponentials that belong to trip `k`. -/
def eWin (d : Vec F S16384x256 .f32) (k : Fin 32) : Vec F S512x256 .f32 :=
  VecWindow.window d ![512 * k.val, 0] S512x256.size (inbE k)

/-- The row of the scratch of maxima that belongs to trip `k`. -/
def mWin (d : Vec F S32x1x256 .f32) (k : Fin 32) : Vec F S1x1x256 .f32 :=
  VecWindow.window d ![k.val, 0, 0] S1x1x256.size (inbM k)

/-- A trip's number, of the first and of the second pass. -/
def t1 (k : Fin k0_t1_loop.trips) : Fin 32 := ⟨k.val, Nat.lt_of_lt_of_le k.isLt k0_t1_abs.2.1⟩
def t2 (k : Fin k0_t2_loop.trips) : Fin 32 := ⟨k.val, Nat.lt_of_lt_of_le k.isLt k0_t2_abs.2.1⟩

/-- The running maximum and the running sum before trip `k` of the first pass. -/
def state1 (v3 : Elt F .f32) (v5 : Vec F S1x256x256 .fp8e4m3) (x3 : Vec F S1x16384x256 .fp8e4m3) : ℕ → FVec F S1x256 .f32 × FVec F S1x256 .f32
  | 0 => (k0_pay1, k0_pay2)
  | k + 1 => if h : k < 32 then
      (k0_pay4 v3 v5 (state1 v3 v5 x3 k).1 (kChunk x3 ⟨k, h⟩), k0_pay6 v3 v5 (state1 v3 v5 x3 k).1 (state1 v3 v5 x3 k).2 (kChunk x3 ⟨k, h⟩))
    else state1 v3 v5 x3 k

/-- The exponentials that trip `k` of the first pass leaves in its rows of the scratch. -/
def eTile (v3 : Elt F .f32) (v5 : Vec F S1x256x256 .fp8e4m3) (x3 : Vec F S1x16384x256 .fp8e4m3) (k : Fin 32) : FVec F S512x256 .f32 :=
  k0_pay7 v3 v5 (state1 v3 v5 x3 k.val).1 (kChunk x3 k)

/-- The running maximum that trip `k` of the first pass leaves in its row of the other scratch. -/
def mTile (v3 : Elt F .f32) (v5 : Vec F S1x256x256 .fp8e4m3) (x3 : Vec F S1x16384x256 .fp8e4m3) (k : Fin 32) : FVec F S1x1x256 .f32 :=
  k0_pay8 v3 v5 (state1 v3 v5 x3 k.val).1 (kChunk x3 k)

/-- The running product of values and probabilities before trip `k` of the second pass. -/
def state2 (v3 : Elt F .f32) (v5 : Vec F S1x256x256 .fp8e4m3) (x3 : Vec F S1x16384x256 .fp8e4m3) (x4 : Vec F S1x1x256x16384 .fp8e4m3) : ℕ → FVec F S256x256 .f32
  | 0 => k0_pay9
  | k + 1 => if h : k < 32 then
      k0_pay10 (state1 v3 v5 x3 32).1 (state1 v3 v5 x3 32).2 (state2 v3 v5 x3 x4 k) (mTile v3 v5 x3 ⟨k, h⟩) (eTile v3 v5 x3 ⟨k, h⟩) (vChunk x4 ⟨k, h⟩)
    else state2 v3 v5 x3 x4 k

/-- The head that a point works on. -/
theorem head_lt (i : grid0.Coords) : 8 * (i 1).val + (i 3).val < 32 := by
  have h1 : (i 1).val < 4 := (i 1).isLt
  have h3 : (i 3).val < 8 := (i 3).isLt
  omega

/-- The word of the combined scores' scales that the point reads. -/
def csWord (i : grid0.Coords) (x0 : Vec F S32 .f32) : Elt F .f32 :=
  x0 (ValueIdx.ix1 ⟨8 * (i 1).val + (i 3).val, head_lt i⟩)

/-- The word of the output's scales that the point reads. -/
def osWord (i : grid0.Coords) (x1 : Vec F S4 .f32) : Elt F .f32 :=
  x1 (ValueIdx.ix1 (i 1))

/-- The output block of the point. -/
def outTile (i : grid0.Coords) (x0 : Vec F S32 .f32) (x1 : Vec F S4 .f32) (x2 : Vec F S1x256x256 .fp8e4m3) (x3 : Vec F S1x16384x256 .fp8e4m3)
    (x4 : Vec F S1x1x256x16384 .fp8e4m3) : FVec F S1x256x256 .bf16 :=
  k0_pay11 (state2 (csWord i x0) x2 x3 x4 32) (osWord i x1)

theorem state1_succ (v3 : Elt F .f32) (v5 : Vec F S1x256x256 .fp8e4m3) (x3 : Vec F S1x16384x256 .fp8e4m3) (k : Fin 32) :
    state1 v3 v5 x3 (k.val + 1) = (k0_pay4 v3 v5 (state1 v3 v5 x3 k.val).1 (kChunk x3 k),
      k0_pay6 v3 v5 (state1 v3 v5 x3 k.val).1 (state1 v3 v5 x3 k.val).2 (kChunk x3 k)) := by
  rw [state1]; exact dif_pos k.isLt

theorem state2_succ (v3 : Elt F .f32) (v5 : Vec F S1x256x256 .fp8e4m3) (x3 : Vec F S1x16384x256 .fp8e4m3) (x4 : Vec F S1x1x256x16384 .fp8e4m3) (k : Fin 32) :
    state2 v3 v5 x3 x4 (k.val + 1) = k0_pay10 (state1 v3 v5 x3 32).1 (state1 v3 v5 x3 32).2 (state2 v3 v5 x3 x4 k.val)
      (mTile v3 v5 x3 k) (eTile v3 v5 x3 k) (vChunk x4 k) := by
  rw [state2]; exact dif_pos k.isLt

/-- What the two loads of the body's scalars read. -/
theorem word0 (i : grid0.Coords) {κ : Kind} {sp : Space} (v : View sig κ sp S32 .f32) (f : v.ty.Contents (Elt F)) (h) :
    v.readAt (Elt F) (Rect.unit (s := S32) (k0_off1 i) S1.size (k0_off1_inb i)).toLoadRect f (Shape.Idx.first h) = csWord i (v.read (Elt F) f) :=
  congrArg (v.read (Elt F) f) (funext fun a => Fin.ext (by
    have := congrFun (k0_off1_eq i) a
    match a with
    | ⟨0, _⟩ => exact this))

theorem word1 (i : grid0.Coords) {κ : Kind} {sp : Space} (v : View sig κ sp S4 .f32) (f : v.ty.Contents (Elt F)) (h) :
    v.readAt (Elt F) (Rect.unit (s := S4) (k0_off8 i) S1.size (k0_off8_inb i)).toLoadRect f (Shape.Idx.first h) = osWord i (v.read (Elt F) f) :=
  congrArg (v.read (Elt F) f) (funext fun a => Fin.ext (by
    have := congrFun (k0_off8_eq i) a
    match a with
    | ⟨0, _⟩ => exact this))

theorem trips1 : k0_t1_loop.trips = 32 := by decide
theorem trips2 : k0_t2_loop.trips = 32 := by decide

/-! ## One trip of each pass -/

/-- One trip of the first pass: it yields the new maximum and sum, and puts the exponentials and the maximum in their windows. -/
theorem trip1 (𝒱 : Variants) (c : Dev nD) (bd : Option 𝒱.V) (E : Set ℕ) (i : grid0.Coords) (arg4 : Memref sig .tc .smem S32 .f32) (harg4 : arg4.IsWhole) (arg5 : Memref sig .tc .smem S4 .f32) (harg5 : arg5.IsWhole)
  (arg6 : Memref sig .tc .vmem S1x256x256 .fp8e4m3) (harg6 : arg6.IsWhole) (arg7 : Memref sig .tc .vmem S1x16384x256 .fp8e4m3) (harg7 : arg7.IsWhole)
  (arg8 : Memref sig .tc .vmem S1x1x256x16384 .fp8e4m3) (harg8 : arg8.IsWhole) (arg9 : Memref sig .tc .vmem S1x256x256 .bf16) (harg9 : arg9.IsWhole)
  (arg10 : Memref sig .tc .vmem S16384x256 .f32) (harg10 : arg10.IsWhole) (arg11 : Memref sig .tc .vmem S32x1x256 .f32) (harg11 : arg11.IsWhole)
  (v3 : Elt F .f32) (v5 : Vec F S1x256x256 .fp8e4m3) (x3 : Vec F S1x16384x256 .fp8e4m3) (d10 : Vec F S16384x256 .f32) (d11 : Vec F S32x1x256 .f32)
  (k : Fin k0_t1_loop.trips) (acc : FVec F S1x256 .f32 × FVec F S1x256 .f32) :
    (iprop(owns (c : Thread nD τ) arg7 fullShare x3 ∗ owns (c : Thread nD τ) arg10 fullShare d10 ∗ owns (c : Thread nD τ) arg11 fullShare d11) : sProp 𝕄)
      ⊢ wp frame (wpE (defs₀ (F := F)) 𝒱 (c : Thread nD τ) bd) E (k0_t1_body (F := F) i arg4 harg4 arg5 harg5 arg6 harg6 arg7 harg7 arg8 harg8 arg9 harg9 arg10 harg10 arg11 harg11 v3 v5 k acc)
        (fun yld => iprop(⌜yld = (k0_pay4 v3 v5 acc.1 (kChunk x3 (t1 k)), k0_pay6 v3 v5 acc.1 acc.2 (kChunk x3 (t1 k)))⌝
          ∗ owns (c : Thread nD τ) arg7 fullShare x3
          ∗ owns (c : Thread nD τ) arg10 fullShare (VecWindow.put d10 ![512 * k.val, 0] S512x256.size (k0_pay7 v3 v5 acc.1 (kChunk x3 (t1 k))))
          ∗ owns (c : Thread nD τ) arg11 fullShare (VecWindow.put d11 ![k.val, 0, 0] S1x1x256.size (k0_pay8 v3 v5 acc.1 (kChunk x3 (t1 k)))))) := by
  have hk : k.val < 32 := Nat.lt_of_lt_of_le k.isLt k0_t1_abs.2.1
  unfold k0_t1_body owns
  iintro ⟨⟨%f7, %h7, H7⟩, ⟨%f10, %h10, H10⟩, ⟨%f11, %h11, H11⟩⟩
  subst h7 h10 h11
  have e7 := View.readAt_unit (Val := Elt F) arg7.view f7 (k0_off2_inb k) (k0_off2_eq k) (inbK (t1 k))
  sl_exec
  sl_step
  isplitr
  · ipureintro; rfl
  isplitl [H7]
  · iexists _; isplitr; swap; · iexact H7
    ipureintro; rfl
  isplitl [H10]
  · iexists _; isplitr; swap; · iexact H10
    ipureintro;
    exact View.read_writes_cons_put (Val := Elt F) arg10.view f10 (off' := ![512 * k.val, 0]) (k0_off3_inb k) _ [] (k0_off3_eq k)
  · iexists _; isplitr; swap; · iexact H11
    ipureintro;
    exact View.read_writes_cons_put (Val := Elt F) arg11.view f11 (off' := ![k.val, 0, 0]) (k0_off4_inb k) _ [] (k0_off4_eq k)

/-- One trip of the second pass: it yields the sum with the chunk's product added, from what it reads of the scratch. -/
theorem trip2 (𝒱 : Variants) (c : Dev nD) (bd : Option 𝒱.V) (E : Set ℕ) (i : grid0.Coords) (arg4 : Memref sig .tc .smem S32 .f32) (harg4 : arg4.IsWhole) (arg5 : Memref sig .tc .smem S4 .f32) (harg5 : arg5.IsWhole)
  (arg6 : Memref sig .tc .vmem S1x256x256 .fp8e4m3) (harg6 : arg6.IsWhole) (arg7 : Memref sig .tc .vmem S1x16384x256 .fp8e4m3) (harg7 : arg7.IsWhole)
  (arg8 : Memref sig .tc .vmem S1x1x256x16384 .fp8e4m3) (harg8 : arg8.IsWhole) (arg9 : Memref sig .tc .vmem S1x256x256 .bf16) (harg9 : arg9.IsWhole)
  (arg10 : Memref sig .tc .vmem S16384x256 .f32) (harg10 : arg10.IsWhole) (arg11 : Memref sig .tc .vmem S32x1x256 .f32) (harg11 : arg11.IsWhole)
  (v10 v11 : FVec F S1x256 .f32) (x4 : Vec F S1x1x256x16384 .fp8e4m3) (d10 : Vec F S16384x256 .f32) (d11 : Vec F S32x1x256 .f32)
  (k : Fin k0_t2_loop.trips) (acc : FVec F S256x256 .f32) :
    (iprop(owns (c : Thread nD τ) arg8 fullShare x4 ∗ owns (c : Thread nD τ) arg10 fullShare d10 ∗ owns (c : Thread nD τ) arg11 fullShare d11) : sProp 𝕄)
      ⊢ wp frame (wpE (defs₀ (F := F)) 𝒱 (c : Thread nD τ) bd) E (k0_t2_body (F := F) i arg4 harg4 arg5 harg5 arg6 harg6 arg7 harg7 arg8 harg8 arg9 harg9 arg10 harg10 arg11 harg11 v10 v11 k acc)
        (fun yld => iprop(⌜yld = k0_pay10 v10 v11 acc
(mWin d11 (t2 k)) (eWin d10 (t2 k)) (vChunk x4 (t2 k))⌝
          ∗ owns (c : Thread nD τ) arg8 fullShare x4 ∗ owns (c : Thread nD τ) arg10 fullShare d10 ∗ owns (c : Thread nD τ) arg11 fullShare d11)) := by
  have hk : k.val < 32 := Nat.lt_of_lt_of_le k.isLt k0_t2_abs.2.1
  unfold k0_t2_body owns
  iintro ⟨⟨%f8, %h8, H8⟩, ⟨%f10, %h10, H10⟩, ⟨%f11, %h11, H11⟩⟩
  subst h8 h10 h11
  have e8 := View.readAt_unit (Val := Elt F) arg8.view f8 (k0_off7_inb k) (k0_off7_eq k) (inbV (t2 k))
  have e10 := View.readAt_unit (Val := Elt F) arg10.view f10 (k0_off6_inb k) (k0_off6_eq k) (inbE (t2 k))
  have e11 := View.readAt_unit (Val := Elt F) arg11.view f11 (k0_off5_inb k) (k0_off5_eq k) (inbM (t2 k))
  sl_exec
  sl_step
  isplitr
  · ipureintro; rfl
  isplitl [H8]
  · iexists _; isplitr; swap; · iexact H8
    ipureintro; rfl
  isplitl [H10]
  · iexists _; isplitr; swap; · iexact H10
    ipureintro; rfl
  · iexists _; isplitr; swap; · iexact H11
    ipureintro; rfl

/-! ## The two passes -/

/-- Before trip `k` of the first pass: the windows of the trips before hold their exponentials and maxima. -/
def inv1 (c : Dev nD) (arg7 : Memref sig .tc .vmem S1x16384x256 .fp8e4m3) (arg10 : Memref sig .tc .vmem S16384x256 .f32) (arg11 : Memref sig .tc .vmem S32x1x256 .f32)
    (v3 : Elt F .f32) (v5 : Vec F S1x256x256 .fp8e4m3) (x3 : Vec F S1x16384x256 .fp8e4m3) (k : ℕ) (acc : FVec F S1x256 .f32 × FVec F S1x256 .f32) : sProp 𝕄 :=
  iprop(owns (c : Thread nD τ) arg7 fullShare x3
    ∗ (∃ d10, ⌜∀ j : Fin 32, j.val < k → eWin d10 j = eTile v3 v5 x3 j⌝ ∗ owns (c : Thread nD τ) arg10 fullShare d10)
    ∗ (∃ d11, ⌜∀ j : Fin 32, j.val < k → mWin d11 j = mTile v3 v5 x3 j⌝ ∗ owns (c : Thread nD τ) arg11 fullShare d11)
    ∗ ⌜acc = state1 v3 v5 x3 k⌝)

/-- Before trip `k` of the second pass: the sum so far. -/
def inv2 (c : Dev nD) (arg8 : Memref sig .tc .vmem S1x1x256x16384 .fp8e4m3) (arg10 : Memref sig .tc .vmem S16384x256 .f32) (arg11 : Memref sig .tc .vmem S32x1x256 .f32)
    (v3 : Elt F .f32) (v5 : Vec F S1x256x256 .fp8e4m3) (x3 : Vec F S1x16384x256 .fp8e4m3) (x4 : Vec F S1x1x256x16384 .fp8e4m3) (d10 : Vec F S16384x256 .f32) (d11 : Vec F S32x1x256 .f32)
    (k : ℕ) (acc : FVec F S256x256 .f32) : sProp 𝕄 :=
  iprop(owns (c : Thread nD τ) arg8 fullShare x4 ∗ owns (c : Thread nD τ) arg10 fullShare d10 ∗ owns (c : Thread nD τ) arg11 fullShare d11
    ∗ ⌜acc = state2 v3 v5 x3 x4 k⌝)

/-- Putting trip `k`'s rows leaves the rows of every other trip, and makes trip `k`'s what was put. -/
theorem eWin_put (d : Vec F S16384x256 .f32) (w : Vec F S512x256 .f32) (k j : Fin 32) :
    eWin (VecWindow.put d ![512 * k.val, 0] S512x256.size w) j = if j = k then w else eWin d j := by
  split
  · next h => subst h; exact VecWindow.window_put_same _ _ _ _ _
  · next h =>
    have h' : j.val ≠ k.val := fun e => h (Fin.ext e)
    exact VecWindow.window_put_of_disjoint _ _ _ _ _ _ _ (0 : Fin 2) (by
      show 512 * j.val + 512 ≤ 512 * k.val ∨ 512 * k.val + 512 ≤ 512 * j.val
      omega)

theorem mWin_put (d : Vec F S32x1x256 .f32) (w : Vec F S1x1x256 .f32) (k j : Fin 32) :
    mWin (VecWindow.put d ![k.val, 0, 0] S1x1x256.size w) j = if j = k then w else mWin d j := by
  split
  · next h => subst h; exact VecWindow.window_put_same _ _ _ _ _
  · next h =>
    have h' : j.val ≠ k.val := fun e => h (Fin.ext e)
    exact VecWindow.window_put_of_disjoint _ _ _ _ _ _ _ (0 : Fin 3) (by
      show j.val + 1 ≤ k.val ∨ k.val + 1 ≤ j.val
      omega)

theorem step1 (𝒱 : Variants) (c : Dev nD) (bd : Option 𝒱.V) (E : Set ℕ) (i : grid0.Coords) (arg4 : Memref sig .tc .smem S32 .f32) (harg4 : arg4.IsWhole) (arg5 : Memref sig .tc .smem S4 .f32) (harg5 : arg5.IsWhole)
  (arg6 : Memref sig .tc .vmem S1x256x256 .fp8e4m3) (harg6 : arg6.IsWhole) (arg7 : Memref sig .tc .vmem S1x16384x256 .fp8e4m3) (harg7 : arg7.IsWhole)
  (arg8 : Memref sig .tc .vmem S1x1x256x16384 .fp8e4m3) (harg8 : arg8.IsWhole) (arg9 : Memref sig .tc .vmem S1x256x256 .bf16) (harg9 : arg9.IsWhole)
  (arg10 : Memref sig .tc .vmem S16384x256 .f32) (harg10 : arg10.IsWhole) (arg11 : Memref sig .tc .vmem S32x1x256 .f32) (harg11 : arg11.IsWhole)
  (v3 : Elt F .f32) (v5 : Vec F S1x256x256 .fp8e4m3) (x3 : Vec F S1x16384x256 .fp8e4m3)
  (k : Fin k0_t1_loop.trips) (acc : FVec F S1x256 .f32 × FVec F S1x256 .f32) :
    (inv1 c arg7 arg10 arg11 v3 v5 x3 k.val acc : sProp 𝕄)
      ⊢ wp frame (wpE (defs₀ (F := F)) 𝒱 (c : Thread nD τ) bd) E (k0_t1_body (F := F) i arg4 harg4 arg5 harg5 arg6 harg6 arg7 harg7 arg8 harg8 arg9 harg9 arg10 harg10 arg11 harg11 v3 v5 k acc)
        (inv1 c arg7 arg10 arg11 v3 v5 x3 (k.val + 1)) := by
  unfold inv1
  iintro ⟨H7, ⟨%d10, %h10, H10⟩, ⟨%d11, %h11, H11⟩, %hacc⟩
  subst hacc
  iapply (wp_wand_r Idealize.ShloMosaic.frame (wpE (defs₀ (F := F)) 𝒱 (c : Thread nD τ) bd) E)
  isplitl [H7 H10 H11]
  · iapply (trip1 𝒱 c bd E i arg4 harg4 arg5 harg5 arg6 harg6 arg7 harg7 arg8 harg8 arg9 harg9 arg10 harg10 arg11 harg11 v3 v5 x3 d10 d11 k (state1 v3 v5 x3 k.val))
    isplitl [H7]; · iexact H7
    isplitl [H10]; · iexact H10
    iexact H11
  · iintro %yld ⟨%hy, H7, H10, H11⟩
    isplitl [H7]; · iexact H7
    isplitl [H10]
    · iexists _; isplitr; swap; · iexact H10
      ipureintro
      intro j hj
      have e := eWin_put d10 (k0_pay7 v3 v5 (state1 v3 v5 x3 k.val).1 (kChunk x3 (t1 k))) (t1 k) j
      refine e.trans ?_
      split
      · next h => subst h; rfl
      · next h => exact h10 j (by have : j.val ≠ k.val := fun e => h (Fin.ext e)
                                  omega)
    isplitl [H11]
    · iexists _; isplitr; swap; · iexact H11
      ipureintro
      intro j hj
      have e := mWin_put d11 (k0_pay8 v3 v5 (state1 v3 v5 x3 k.val).1 (kChunk x3 (t1 k))) (t1 k) j
      refine e.trans ?_
      split
      · next h => subst h; rfl
      · next h => exact h11 j (by have : j.val ≠ k.val := fun e => h (Fin.ext e)
                                  omega)
    ipureintro
    exact hy.trans (state1_succ v3 v5 x3 (t1 k)).symm

theorem step2 (𝒱 : Variants) (c : Dev nD) (bd : Option 𝒱.V) (E : Set ℕ) (i : grid0.Coords) (arg4 : Memref sig .tc .smem S32 .f32) (harg4 : arg4.IsWhole) (arg5 : Memref sig .tc .smem S4 .f32) (harg5 : arg5.IsWhole)
  (arg6 : Memref sig .tc .vmem S1x256x256 .fp8e4m3) (harg6 : arg6.IsWhole) (arg7 : Memref sig .tc .vmem S1x16384x256 .fp8e4m3) (harg7 : arg7.IsWhole)
  (arg8 : Memref sig .tc .vmem S1x1x256x16384 .fp8e4m3) (harg8 : arg8.IsWhole) (arg9 : Memref sig .tc .vmem S1x256x256 .bf16) (harg9 : arg9.IsWhole)
  (arg10 : Memref sig .tc .vmem S16384x256 .f32) (harg10 : arg10.IsWhole) (arg11 : Memref sig .tc .vmem S32x1x256 .f32) (harg11 : arg11.IsWhole)
  (v3 : Elt F .f32) (v5 : Vec F S1x256x256 .fp8e4m3) (x3 : Vec F S1x16384x256 .fp8e4m3) (x4 : Vec F S1x1x256x16384 .fp8e4m3)
  (d10 : Vec F S16384x256 .f32) (d11 : Vec F S32x1x256 .f32) (h10 : ∀ j : Fin 32, eWin d10 j = eTile v3 v5 x3 j) (h11 : ∀ j : Fin 32, mWin d11 j = mTile v3 v5 x3 j)
  (k : Fin k0_t2_loop.trips) (acc : FVec F S256x256 .f32) :
    (inv2 c arg8 arg10 arg11 v3 v5 x3 x4 d10 d11 k.val acc : sProp 𝕄)
      ⊢ wp frame (wpE (defs₀ (F := F)) 𝒱 (c : Thread nD τ) bd) E (k0_t2_body (F := F) i arg4 harg4 arg5 harg5 arg6 harg6 arg7 harg7 arg8 harg8 arg9 harg9 arg10 harg10 arg11 harg11 (state1 v3 v5 x3 32).1 (state1 v3 v5 x3 32).2 k acc)
        (inv2 c arg8 arg10 arg11 v3 v5 x3 x4 d10 d11 (k.val + 1)) := by
  unfold inv2
  iintro ⟨H8, H10, H11, %hacc⟩
  subst hacc
  iapply (wp_wand_r Idealize.ShloMosaic.frame (wpE (defs₀ (F := F)) 𝒱 (c : Thread nD τ) bd) E)
  isplitl [H8 H10 H11]
  · iapply (trip2 𝒱 c bd E i arg4 harg4 arg5 harg5 arg6 harg6 arg7 harg7 arg8 harg8 arg9 harg9 arg10 harg10 arg11 harg11 _ _ x4 d10 d11 k (state2 v3 v5 x3 x4 k.val))
    isplitl [H8]; · iexact H8
    isplitl [H10]; · iexact H10
    iexact H11
  · iintro %yld ⟨%hy, H8, H10, H11⟩
    isplitl [H8]; · iexact H8
    isplitl [H10]; · iexact H10
    isplitl [H11]; · iexact H11
    ipureintro
    rw [h10, h11] at hy
    exact hy.trans (state2_succ v3 v5 x3 x4 (t2 k)).symm

set_option maxHeartbeats 1000000 in
/-- THE BODY: on whole staging memrefs, the inputs' at their blocks, it ends with the output's at `outTile` of them. -/
theorem run (c : Dev nD) (i : grid0.Coords) (arg4 : Memref sig .tc .smem S32 .f32) (harg4 : arg4.IsWhole) (arg5 : Memref sig .tc .smem S4 .f32) (harg5 : arg5.IsWhole)
  (arg6 : Memref sig .tc .vmem S1x256x256 .fp8e4m3) (harg6 : arg6.IsWhole) (arg7 : Memref sig .tc .vmem S1x16384x256 .fp8e4m3) (harg7 : arg7.IsWhole)
  (arg8 : Memref sig .tc .vmem S1x1x256x16384 .fp8e4m3) (harg8 : arg8.IsWhole) (arg9 : Memref sig .tc .vmem S1x256x256 .bf16) (harg9 : arg9.IsWhole)
  (arg10 : Memref sig .tc .vmem S16384x256 .f32) (harg10 : arg10.IsWhole) (arg11 : Memref sig .tc .vmem S32x1x256 .f32) (harg11 : arg11.IsWhole)
    (x0 : Vec F S32 .f32) (x1 : Vec F S4 .f32) (x2 : Vec F S1x256x256 .fp8e4m3) (x3 : Vec F S1x16384x256 .fp8e4m3) (x4 : Vec F S1x1x256x16384 .fp8e4m3)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outTile i x0 x1 x2 x3 x4) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_fp8_attention i arg4 harg4 arg5 harg5 arg6 harg6 arg7 harg7 arg8 harg8 arg9 harg9 arg10 harg10 arg11 harg11) K := by
  simp only [cc0_gqa_fp8_attention_eq_skeleton]; unfold cc0_gqa_fp8_attention_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, %hs0, HS0⟩, ⟨%ds1, %fs1, %hs1, HS1⟩, Hk⟩
  set_option sl_exec.maxSteps 4 in sl_exec
  have e0 : run.sl.r c i arg4 f0 = csWord i x0 := by
    subst hf0; exact word0 i arg4.view f0 _
  have e2 : View.readAt (Elt F) arg6.view (Rect.unit ![0, 0, 0] S1x256x256.size inb_S1x256x256_S1x256x256_0_0_0).toLoadRect f2 = x2 := by
    subst hf2; exact View.readAt_full _ _ _
  sl_for (inv1 c arg7 arg10 arg11 (run.sl.r c i arg4 f0) (View.readAt (Elt F) arg6.view (Rect.unit ![0, 0, 0] S1x256x256.size inb_S1x256x256_S1x256x256_0_0_0).toLoadRect f2) x3) $$ [H3 HS0 HS1]
  case region =>
    intro k acc
    exact step1 Variants.none c none E i arg4 harg4 arg5 harg5 arg6 harg6 arg7 harg7 arg8 harg8 arg9 harg9 arg10 harg10 arg11 harg11 _ _ x3 k acc
  · unfold inv1 owns
    isplitl [H3]
    · iexists _; isplitr; swap; · iexact H3
      ipureintro; exact hf3
    isplitl [HS0]
    · iexists ds0
      isplitr; · ipureintro; intro j hj; exact absurd hj (Nat.not_lt_zero _)
      iexists _; isplitr; swap; · iexact HS0
      ipureintro; exact hs0
    isplitl [HS1]
    · iexists ds1
      isplitr; · ipureintro; intro j hj; exact absurd hj (Nat.not_lt_zero _)
      iexists _; isplitr; swap; · iexact HS1
      ipureintro; exact hs1
    ipureintro; rfl
  iintro %acc HI
  obtain ⟨am, al⟩ := acc
  rw [e0, e2]
  unfold inv1 owns
  icases HI with ⟨⟨%f3', %hf3', H3⟩, ⟨%d10, %h10, ⟨%f10, %hf10, HS0⟩⟩, ⟨%d11, %h11, ⟨%f11, %hf11, HS1⟩⟩, %hacc⟩
  have hacc' : (am, al) = state1 (csWord i x0) x2 x3 32 := hacc.trans (congrArg _ trips1)
  have hm : am = (state1 (csWord i x0) x2 x3 32).1 := congrArg Prod.fst hacc'
  have hl : al = (state1 (csWord i x0) x2 x3 32).2 := congrArg Prod.snd hacc'
  have h10' : ∀ j : Fin 32, eWin d10 j = eTile (csWord i x0) x2 x3 j := fun j => h10 j (j.isLt.trans_eq trips1.symm)
  have h11' : ∀ j : Fin 32, mWin d11 j = mTile (csWord i x0) x2 x3 j := fun j => h11 j (j.isLt.trans_eq trips1.symm)
  clear hacc h10 h11 hacc'
  subst hm hl
  sl_respell []
  sl_for (inv2 c arg8 arg10 arg11 (csWord i x0) x2 x3 x4 d10 d11) $$ [H4 HS0 HS1]
  case region =>
    intro k acc
    exact step2 Variants.none c none E i arg4 harg4 arg5 harg5 arg6 harg6 arg7 harg7 arg8 harg8 arg9 harg9 arg10 harg10 arg11 harg11 _ _ x3 x4 d10 d11 h10' h11' k acc
  · unfold inv2 owns
    isplitl [H4]
    · iexists _; isplitr; swap; · iexact H4
      ipureintro; exact hf4
    isplitl [HS0]
    · iexists _; isplitr; swap; · iexact HS0
      ipureintro; exact hf10
    isplitl [HS1]
    · iexists _; isplitr; swap; · iexact HS1
      ipureintro; exact hf11
    ipureintro; rfl
  iintro %acc HI
  unfold inv2 owns
  icases HI with ⟨⟨%f4', %hf4', H4⟩, ⟨%f10', %hf10', HS0⟩, ⟨%f11', %hf11', HS1⟩, %hacc⟩
  have hacc' : acc = state2 (csWord i x0) x2 x3 x4 32 := hacc.trans (congrArg _ trips2)
  clear hacc
  subst hacc'
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3'
  isplitl [H4]
  · iexists _; isplitr; swap; · iexact H4
    ipureintro; exact hf4'
  isplitl [H5]
  · iexists _; isplitr; swap; · iexact H5
    ipureintro
    refine (View.read_writes_full (Val := Elt F) arg9.view f5 inb_S1x256x256_S1x256x256_0_0_0 _ []).trans ?_
    subst hf1
    exact congrArg (k0_pay11 (state2 (csWord i x0) x2 x3 x4 32)) (word1 i arg5.view f1 _)
  isplitl [HS0]
  · iexists _, _; isplitr; swap; · iexact HS0
    ipureintro; rfl
  iexists _, _; isplitr; swap; · iexact HS1
  ipureintro; rfl

end Cert.Kernel.Body

end
-- ==== Proof.PFrame.lean ====
/-
  The printed kernel's run with its output named: every grid point leaves `Body.outTile` of its input blocks in the
  output's staging buffer; the frame follows, and the result array's contents as the library computes them.
-/
module

public import proofs.«01_k».proof.Proof.PBody
public import Idealize.ShloMosaic.Lib.Claim

@[expose] public section

set_option maxRecDepth 16384

noncomputable section

namespace Cert.Kernel.PFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's staging buffer holds after the body at point `t`. -/
def outAt (c : Dev nD) (t : Fin cfg0.N) : Vec F S1x256x256 .bf16 :=
  Body.outTile (grid0.coords t) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outAt
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (Body.run c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution ends, with the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.PFrame

end
-- ==== Proof.Body.lean ====
/- What one grid point of the idealized kernel computes, as plain functions of its blocks (`state1`, `state2`, `outTile`), and the
   proof that the kernel body computes it: each counted loop by an invariant over its trips, the two scratch buffers
   described by the windows that the trips before have put there. -/
module

public import proofs.«01_k».proof.Proof.Gen.KernelIdeal.Frame.Runs
public import Idealize.ShloMosaic.Lib.VecWindow
public import Idealize.ShloMosaic.Lib.WholeRead
public import Idealize.ShloMosaic.Lib.ValueIdx

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The point's value -/

theorem inbK (k : Fin 32) : ∀ a, (![0, 512 * k.val, 0] : Fin 3 → ℕ) a + S1x512x256.size a ≤ S1x16384x256.size a := by
  have := k.isLt
  intro a; fin_cases a
  · exact Nat.le_refl 1
  · show 512 * k.val + 512 ≤ 16384; omega
  · exact Nat.le_refl 256
theorem inbV (k : Fin 32) : ∀ a, (![0, 0, 0, 512 * k.val] : Fin 4 → ℕ) a + S1x1x256x512.size a ≤ S1x1x256x16384.size a := by
  have := k.isLt
  intro a; fin_cases a
  · exact Nat.le_refl 1
  · exact Nat.le_refl 1
  · exact Nat.le_refl 256
  · show 512 * k.val + 512 ≤ 16384; omega
theorem inbE (k : Fin 32) : ∀ a, (![512 * k.val, 0] : Fin 2 → ℕ) a + S512x256.size a ≤ S16384x256.size a := by
  have := k.isLt
  intro a; fin_cases a
  · show 512 * k.val + 512 ≤ 16384; omega
  · exact Nat.le_refl 256
theorem inbM (k : Fin 32) : ∀ a, (![k.val, 0, 0] : Fin 3 → ℕ) a + S1x1x256.size a ≤ S32x1x256.size a := by
  have := k.isLt
  intro a; fin_cases a
  · show k.val + 1 ≤ 32; omega
  · exact Nat.le_refl 1
  · exact Nat.le_refl 256

/-- The rows of the key block that trip `k` of the first pass reads. -/
def kChunk (x3 : Vec F S1x16384x256 .fp8e4m3) (k : Fin 32) : Vec F S1x512x256 .fp8e4m3 :=
  VecWindow.window x3 ![0, 512 * k.val, 0] S1x512x256.size (inbK k)

/-- The columns of the transposed value block that trip `k` of the second pass reads. -/
def vChunk (x4 : Vec F S1x1x256x16384 .fp8e4m3) (k : Fin 32) : Vec F S1x1x256x512 .fp8e4m3 :=
  VecWindow.window x4 ![0, 0, 0, 512 * k.val] S1x1x256x512.size (inbV k)

/-- The rows of the scratch of exponentials that belong to trip `k`. -/
def eWin (d : Vec F S16384x256 .f32) (k : Fin 32) : Vec F S512x256 .f32 :=
  VecWindow.window d ![512 * k.val, 0] S512x256.size (inbE k)

/-- The row of the scratch of maxima that belongs to trip `k`. -/
def mWin (d : Vec F S32x1x256 .f32) (k : Fin 32) : Vec F S1x1x256 .f32 :=
  VecWindow.window d ![k.val, 0, 0] S1x1x256.size (inbM k)

/-- A trip's number, of the first and of the second pass. -/
def t1 (k : Fin k0_t1_loop.trips) : Fin 32 := ⟨k.val, Nat.lt_of_lt_of_le k.isLt k0_t1_abs.2.1⟩
def t2 (k : Fin k0_t2_loop.trips) : Fin 32 := ⟨k.val, Nat.lt_of_lt_of_le k.isLt k0_t2_abs.2.1⟩

/-- The running maximum and the running sum before trip `k` of the first pass. -/
def state1 (v3 : Elt F .f32) (v5 : Vec F S1x256x256 .fp8e4m3) (x3 : Vec F S1x16384x256 .fp8e4m3) : ℕ → FVec F S1x256 .f32 × FVec F S1x256 .f32
  | 0 => (k0_pay1, k0_pay2)
  | k + 1 => if h : k < 32 then
      (k0_pay4 v3 v5 (state1 v3 v5 x3 k).1 (kChunk x3 ⟨k, h⟩), k0_pay6 v3 v5 (state1 v3 v5 x3 k).1 (state1 v3 v5 x3 k).2 (kChunk x3 ⟨k, h⟩))
    else state1 v3 v5 x3 k

/-- The exponentials that trip `k` of the first pass leaves in its rows of the scratch. -/
def eTile (v3 : Elt F .f32) (v5 : Vec F S1x256x256 .fp8e4m3) (x3 : Vec F S1x16384x256 .fp8e4m3) (k : Fin 32) : FVec F S512x256 .f32 :=
  k0_pay7 v3 v5 (state1 v3 v5 x3 k.val).1 (kChunk x3 k)

/-- The running maximum that trip `k` of the first pass leaves in its row of the other scratch. -/
def mTile (v3 : Elt F .f32) (v5 : Vec F S1x256x256 .fp8e4m3) (x3 : Vec F S1x16384x256 .fp8e4m3) (k : Fin 32) : FVec F S1x1x256 .f32 :=
  k0_pay8 v3 v5 (state1 v3 v5 x3 k.val).1 (kChunk x3 k)

/-- The running product of values and probabilities before trip `k` of the second pass. -/
def state2 (v3 : Elt F .f32) (v5 : Vec F S1x256x256 .fp8e4m3) (x3 : Vec F S1x16384x256 .fp8e4m3) (x4 : Vec F S1x1x256x16384 .fp8e4m3) : ℕ → FVec F S256x256 .f32
  | 0 => k0_pay9
  | k + 1 => if h : k < 32 then
      k0_pay10 (state1 v3 v5 x3 32).1 (state1 v3 v5 x3 32).2 (state2 v3 v5 x3 x4 k) (mTile v3 v5 x3 ⟨k, h⟩) (eTile v3 v5 x3 ⟨k, h⟩) (vChunk x4 ⟨k, h⟩)
    else state2 v3 v5 x3 x4 k

/-- The head that a point works on. -/
theorem head_lt (i : grid0.Coords) : 8 * (i 1).val + (i 3).val < 32 := by
  have h1 : (i 1).val < 4 := (i 1).isLt
  have h3 : (i 3).val < 8 := (i 3).isLt
  omega

/-- The word of the combined scores' scales that the point reads. -/
def csWord (i : grid0.Coords) (x0 : Vec F S32 .f32) : Elt F .f32 :=
  x0 (ValueIdx.ix1 ⟨8 * (i 1).val + (i 3).val, head_lt i⟩)

/-- The word of the output's scales that the point reads. -/
def osWord (i : grid0.Coords) (x1 : Vec F S4 .f32) : Elt F .f32 :=
  x1 (ValueIdx.ix1 (i 1))

/-- The output block of the point. -/
def outTile (i : grid0.Coords) (x0 : Vec F S32 .f32) (x1 : Vec F S4 .f32) (x2 : Vec F S1x256x256 .fp8e4m3) (x3 : Vec F S1x16384x256 .fp8e4m3)
    (x4 : Vec F S1x1x256x16384 .fp8e4m3) : FVec F S1x256x256 .bf16 :=
  k0_pay11 (state2 (csWord i x0) x2 x3 x4 32) (osWord i x1)

theorem state1_succ (v3 : Elt F .f32) (v5 : Vec F S1x256x256 .fp8e4m3) (x3 : Vec F S1x16384x256 .fp8e4m3) (k : Fin 32) :
    state1 v3 v5 x3 (k.val + 1) = (k0_pay4 v3 v5 (state1 v3 v5 x3 k.val).1 (kChunk x3 k),
      k0_pay6 v3 v5 (state1 v3 v5 x3 k.val).1 (state1 v3 v5 x3 k.val).2 (kChunk x3 k)) := by
  rw [state1]; exact dif_pos k.isLt

theorem state2_succ (v3 : Elt F .f32) (v5 : Vec F S1x256x256 .fp8e4m3) (x3 : Vec F S1x16384x256 .fp8e4m3) (x4 : Vec F S1x1x256x16384 .fp8e4m3) (k : Fin 32) :
    state2 v3 v5 x3 x4 (k.val + 1) = k0_pay10 (state1 v3 v5 x3 32).1 (state1 v3 v5 x3 32).2 (state2 v3 v5 x3 x4 k.val)
      (mTile v3 v5 x3 k) (eTile v3 v5 x3 k) (vChunk x4 k) := by
  rw [state2]; exact dif_pos k.isLt

/-- What the two loads of the body's scalars read. -/
theorem word0 (i : grid0.Coords) {κ : Kind} {sp : Space} (v : View sig κ sp S32 .f32) (f : v.ty.Contents (Elt F)) (h) :
    v.readAt (Elt F) (Rect.unit (s := S32) (k0_off1 i) S1.size (k0_off1_inb i)).toLoadRect f (Shape.Idx.first h) = csWord i (v.read (Elt F) f) :=
  congrArg (v.read (Elt F) f) (funext fun a => Fin.ext (by
    have := congrFun (k0_off1_eq i) a
    match a with
    | ⟨0, _⟩ => exact this))

theorem word1 (i : grid0.Coords) {κ : Kind} {sp : Space} (v : View sig κ sp S4 .f32) (f : v.ty.Contents (Elt F)) (h) :
    v.readAt (Elt F) (Rect.unit (s := S4) (k0_off8 i) S1.size (k0_off8_inb i)).toLoadRect f (Shape.Idx.first h) = osWord i (v.read (Elt F) f) :=
  congrArg (v.read (Elt F) f) (funext fun a => Fin.ext (by
    have := congrFun (k0_off8_eq i) a
    match a with
    | ⟨0, _⟩ => exact this))

theorem trips1 : k0_t1_loop.trips = 32 := by decide
theorem trips2 : k0_t2_loop.trips = 32 := by decide

/-! ## One trip of each pass -/

/-- One trip of the first pass: it yields the new maximum and sum, and puts the exponentials and the maximum in their windows. -/
theorem trip1 (𝒱 : Variants) (c : Dev nD) (bd : Option 𝒱.V) (E : Set ℕ) (i : grid0.Coords) (arg4 : Memref sig .tc .smem S32 .f32) (harg4 : arg4.IsWhole) (arg5 : Memref sig .tc .smem S4 .f32) (harg5 : arg5.IsWhole)
  (arg6 : Memref sig .tc .vmem S1x256x256 .fp8e4m3) (harg6 : arg6.IsWhole) (arg7 : Memref sig .tc .vmem S1x16384x256 .fp8e4m3) (harg7 : arg7.IsWhole)
  (arg8 : Memref sig .tc .vmem S1x1x256x16384 .fp8e4m3) (harg8 : arg8.IsWhole) (arg9 : Memref sig .tc .vmem S1x256x256 .bf16) (harg9 : arg9.IsWhole)
  (arg10 : Memref sig .tc .vmem S16384x256 .f32) (harg10 : arg10.IsWhole) (arg11 : Memref sig .tc .vmem S32x1x256 .f32) (harg11 : arg11.IsWhole)
  (v3 : Elt F .f32) (v5 : Vec F S1x256x256 .fp8e4m3) (x3 : Vec F S1x16384x256 .fp8e4m3) (d10 : Vec F S16384x256 .f32) (d11 : Vec F S32x1x256 .f32)
  (k : Fin k0_t1_loop.trips) (acc : FVec F S1x256 .f32 × FVec F S1x256 .f32) :
    (iprop(owns (c : Thread nD τ) arg7 fullShare x3 ∗ owns (c : Thread nD τ) arg10 fullShare d10 ∗ owns (c : Thread nD τ) arg11 fullShare d11) : sProp 𝕄)
      ⊢ wp frame (wpE (defs₀ (F := F)) 𝒱 (c : Thread nD τ) bd) E (k0_t1_body (F := F) i arg4 harg4 arg5 harg5 arg6 harg6 arg7 harg7 arg8 harg8 arg9 harg9 arg10 harg10 arg11 harg11 v3 v5 k acc)
        (fun yld => iprop(⌜yld = (k0_pay4 v3 v5 acc.1 (kChunk x3 (t1 k)), k0_pay6 v3 v5 acc.1 acc.2 (kChunk x3 (t1 k)))⌝
          ∗ owns (c : Thread nD τ) arg7 fullShare x3
          ∗ owns (c : Thread nD τ) arg10 fullShare (VecWindow.put d10 ![512 * k.val, 0] S512x256.size (k0_pay7 v3 v5 acc.1 (kChunk x3 (t1 k))))
          ∗ owns (c : Thread nD τ) arg11 fullShare (VecWindow.put d11 ![k.val, 0, 0] S1x1x256.size (k0_pay8 v3 v5 acc.1 (kChunk x3 (t1 k)))))) := by
  have hk : k.val < 32 := Nat.lt_of_lt_of_le k.isLt k0_t1_abs.2.1
  unfold k0_t1_body owns
  iintro ⟨⟨%f7, %h7, H7⟩, ⟨%f10, %h10, H10⟩, ⟨%f11, %h11, H11⟩⟩
  subst h7 h10 h11
  have e7 := View.readAt_unit (Val := Elt F) arg7.view f7 (k0_off2_inb k) (k0_off2_eq k) (inbK (t1 k))
  sl_exec
  sl_step
  isplitr
  · ipureintro; rfl
  isplitl [H7]
  · iexists _; isplitr; swap; · iexact H7
    ipureintro; rfl
  isplitl [H10]
  · iexists _; isplitr; swap; · iexact H10
    ipureintro;
    exact View.read_writes_cons_put (Val := Elt F) arg10.view f10 (off' := ![512 * k.val, 0]) (k0_off3_inb k) _ [] (k0_off3_eq k)
  · iexists _; isplitr; swap; · iexact H11
    ipureintro;
    exact View.read_writes_cons_put (Val := Elt F) arg11.view f11 (off' := ![k.val, 0, 0]) (k0_off4_inb k) _ [] (k0_off4_eq k)

/-- One trip of the second pass: it yields the sum with the chunk's product added, from what it reads of the scratch. -/
theorem trip2 (𝒱 : Variants) (c : Dev nD) (bd : Option 𝒱.V) (E : Set ℕ) (i : grid0.Coords) (arg4 : Memref sig .tc .smem S32 .f32) (harg4 : arg4.IsWhole) (arg5 : Memref sig .tc .smem S4 .f32) (harg5 : arg5.IsWhole)
  (arg6 : Memref sig .tc .vmem S1x256x256 .fp8e4m3) (harg6 : arg6.IsWhole) (arg7 : Memref sig .tc .vmem S1x16384x256 .fp8e4m3) (harg7 : arg7.IsWhole)
  (arg8 : Memref sig .tc .vmem S1x1x256x16384 .fp8e4m3) (harg8 : arg8.IsWhole) (arg9 : Memref sig .tc .vmem S1x256x256 .bf16) (harg9 : arg9.IsWhole)
  (arg10 : Memref sig .tc .vmem S16384x256 .f32) (harg10 : arg10.IsWhole) (arg11 : Memref sig .tc .vmem S32x1x256 .f32) (harg11 : arg11.IsWhole)
  (v10 v11 : FVec F S1x256 .f32) (x4 : Vec F S1x1x256x16384 .fp8e4m3) (d10 : Vec F S16384x256 .f32) (d11 : Vec F S32x1x256 .f32)
  (k : Fin k0_t2_loop.trips) (acc : FVec F S256x256 .f32) :
    (iprop(owns (c : Thread nD τ) arg8 fullShare x4 ∗ owns (c : Thread nD τ) arg10 fullShare d10 ∗ owns (c : Thread nD τ) arg11 fullShare d11) : sProp 𝕄)
      ⊢ wp frame (wpE (defs₀ (F := F)) 𝒱 (c : Thread nD τ) bd) E (k0_t2_body (F := F) i arg4 harg4 arg5 harg5 arg6 harg6 arg7 harg7 arg8 harg8 arg9 harg9 arg10 harg10 arg11 harg11 v10 v11 k acc)
        (fun yld => iprop(⌜yld = k0_pay10 v10 v11 acc
(mWin d11 (t2 k)) (eWin d10 (t2 k)) (vChunk x4 (t2 k))⌝
          ∗ owns (c : Thread nD τ) arg8 fullShare x4 ∗ owns (c : Thread nD τ) arg10 fullShare d10 ∗ owns (c : Thread nD τ) arg11 fullShare d11)) := by
  have hk : k.val < 32 := Nat.lt_of_lt_of_le k.isLt k0_t2_abs.2.1
  unfold k0_t2_body owns
  iintro ⟨⟨%f8, %h8, H8⟩, ⟨%f10, %h10, H10⟩, ⟨%f11, %h11, H11⟩⟩
  subst h8 h10 h11
  have e8 := View.readAt_unit (Val := Elt F) arg8.view f8 (k0_off7_inb k) (k0_off7_eq k) (inbV (t2 k))
  have e10 := View.readAt_unit (Val := Elt F) arg10.view f10 (k0_off6_inb k) (k0_off6_eq k) (inbE (t2 k))
  have e11 := View.readAt_unit (Val := Elt F) arg11.view f11 (k0_off5_inb k) (k0_off5_eq k) (inbM (t2 k))
  sl_exec
  sl_step
  isplitr
  · ipureintro; rfl
  isplitl [H8]
  · iexists _; isplitr; swap; · iexact H8
    ipureintro; rfl
  isplitl [H10]
  · iexists _; isplitr; swap; · iexact H10
    ipureintro; rfl
  · iexists _; isplitr; swap; · iexact H11
    ipureintro; rfl

/-! ## The two passes -/

/-- Before trip `k` of the first pass: the windows of the trips before hold their exponentials and maxima. -/
def inv1 (c : Dev nD) (arg7 : Memref sig .tc .vmem S1x16384x256 .fp8e4m3) (arg10 : Memref sig .tc .vmem S16384x256 .f32) (arg11 : Memref sig .tc .vmem S32x1x256 .f32)
    (v3 : Elt F .f32) (v5 : Vec F S1x256x256 .fp8e4m3) (x3 : Vec F S1x16384x256 .fp8e4m3) (k : ℕ) (acc : FVec F S1x256 .f32 × FVec F S1x256 .f32) : sProp 𝕄 :=
  iprop(owns (c : Thread nD τ) arg7 fullShare x3
    ∗ (∃ d10, ⌜∀ j : Fin 32, j.val < k → eWin d10 j = eTile v3 v5 x3 j⌝ ∗ owns (c : Thread nD τ) arg10 fullShare d10)
    ∗ (∃ d11, ⌜∀ j : Fin 32, j.val < k → mWin d11 j = mTile v3 v5 x3 j⌝ ∗ owns (c : Thread nD τ) arg11 fullShare d11)
    ∗ ⌜acc = state1 v3 v5 x3 k⌝)

/-- Before trip `k` of the second pass: the sum so far. -/
def inv2 (c : Dev nD) (arg8 : Memref sig .tc .vmem S1x1x256x16384 .fp8e4m3) (arg10 : Memref sig .tc .vmem S16384x256 .f32) (arg11 : Memref sig .tc .vmem S32x1x256 .f32)
    (v3 : Elt F .f32) (v5 : Vec F S1x256x256 .fp8e4m3) (x3 : Vec F S1x16384x256 .fp8e4m3) (x4 : Vec F S1x1x256x16384 .fp8e4m3) (d10 : Vec F S16384x256 .f32) (d11 : Vec F S32x1x256 .f32)
    (k : ℕ) (acc : FVec F S256x256 .f32) : sProp 𝕄 :=
  iprop(owns (c : Thread nD τ) arg8 fullShare x4 ∗ owns (c : Thread nD τ) arg10 fullShare d10 ∗ owns (c : Thread nD τ) arg11 fullShare d11
    ∗ ⌜acc = state2 v3 v5 x3 x4 k⌝)

/-- Putting trip `k`'s rows leaves the rows of every other trip, and makes trip `k`'s what was put. -/
theorem eWin_put (d : Vec F S16384x256 .f32) (w : Vec F S512x256 .f32) (k j : Fin 32) :
    eWin (VecWindow.put d ![512 * k.val, 0] S512x256.size w) j = if j = k then w else eWin d j := by
  split
  · next h => subst h; exact VecWindow.window_put_same _ _ _ _ _
  · next h =>
    have h' : j.val ≠ k.val := fun e => h (Fin.ext e)
    exact VecWindow.window_put_of_disjoint _ _ _ _ _ _ _ (0 : Fin 2) (by
      show 512 * j.val + 512 ≤ 512 * k.val ∨ 512 * k.val + 512 ≤ 512 * j.val
      omega)

theorem mWin_put (d : Vec F S32x1x256 .f32) (w : Vec F S1x1x256 .f32) (k j : Fin 32) :
    mWin (VecWindow.put d ![k.val, 0, 0] S1x1x256.size w) j = if j = k then w else mWin d j := by
  split
  · next h => subst h; exact VecWindow.window_put_same _ _ _ _ _
  · next h =>
    have h' : j.val ≠ k.val := fun e => h (Fin.ext e)
    exact VecWindow.window_put_of_disjoint _ _ _ _ _ _ _ (0 : Fin 3) (by
      show j.val + 1 ≤ k.val ∨ k.val + 1 ≤ j.val
      omega)

theorem step1 (𝒱 : Variants) (c : Dev nD) (bd : Option 𝒱.V) (E : Set ℕ) (i : grid0.Coords) (arg4 : Memref sig .tc .smem S32 .f32) (harg4 : arg4.IsWhole) (arg5 : Memref sig .tc .smem S4 .f32) (harg5 : arg5.IsWhole)
  (arg6 : Memref sig .tc .vmem S1x256x256 .fp8e4m3) (harg6 : arg6.IsWhole) (arg7 : Memref sig .tc .vmem S1x16384x256 .fp8e4m3) (harg7 : arg7.IsWhole)
  (arg8 : Memref sig .tc .vmem S1x1x256x16384 .fp8e4m3) (harg8 : arg8.IsWhole) (arg9 : Memref sig .tc .vmem S1x256x256 .bf16) (harg9 : arg9.IsWhole)
  (arg10 : Memref sig .tc .vmem S16384x256 .f32) (harg10 : arg10.IsWhole) (arg11 : Memref sig .tc .vmem S32x1x256 .f32) (harg11 : arg11.IsWhole)
  (v3 : Elt F .f32) (v5 : Vec F S1x256x256 .fp8e4m3) (x3 : Vec F S1x16384x256 .fp8e4m3)
  (k : Fin k0_t1_loop.trips) (acc : FVec F S1x256 .f32 × FVec F S1x256 .f32) :
    (inv1 c arg7 arg10 arg11 v3 v5 x3 k.val acc : sProp 𝕄)
      ⊢ wp frame (wpE (defs₀ (F := F)) 𝒱 (c : Thread nD τ) bd) E (k0_t1_body (F := F) i arg4 harg4 arg5 harg5 arg6 harg6 arg7 harg7 arg8 harg8 arg9 harg9 arg10 harg10 arg11 harg11 v3 v5 k acc)
        (inv1 c arg7 arg10 arg11 v3 v5 x3 (k.val + 1)) := by
  unfold inv1
  iintro ⟨H7, ⟨%d10, %h10, H10⟩, ⟨%d11, %h11, H11⟩, %hacc⟩
  subst hacc
  iapply (wp_wand_r Idealize.ShloMosaic.frame (wpE (defs₀ (F := F)) 𝒱 (c : Thread nD τ) bd) E)
  isplitl [H7 H10 H11]
  · iapply (trip1 𝒱 c bd E i arg4 harg4 arg5 harg5 arg6 harg6 arg7 harg7 arg8 harg8 arg9 harg9 arg10 harg10 arg11 harg11 v3 v5 x3 d10 d11 k (state1 v3 v5 x3 k.val))
    isplitl [H7]; · iexact H7
    isplitl [H10]; · iexact H10
    iexact H11
  · iintro %yld ⟨%hy, H7, H10, H11⟩
    isplitl [H7]; · iexact H7
    isplitl [H10]
    · iexists _; isplitr; swap; · iexact H10
      ipureintro
      intro j hj
      have e := eWin_put d10 (k0_pay7 v3 v5 (state1 v3 v5 x3 k.val).1 (kChunk x3 (t1 k))) (t1 k) j
      refine e.trans ?_
      split
      · next h => subst h; rfl
      · next h => exact h10 j (by have : j.val ≠ k.val := fun e => h (Fin.ext e)
                                  omega)
    isplitl [H11]
    · iexists _; isplitr; swap; · iexact H11
      ipureintro
      intro j hj
      have e := mWin_put d11 (k0_pay8 v3 v5 (state1 v3 v5 x3 k.val).1 (kChunk x3 (t1 k))) (t1 k) j
      refine e.trans ?_
      split
      · next h => subst h; rfl
      · next h => exact h11 j (by have : j.val ≠ k.val := fun e => h (Fin.ext e)
                                  omega)
    ipureintro
    exact hy.trans (state1_succ v3 v5 x3 (t1 k)).symm

theorem step2 (𝒱 : Variants) (c : Dev nD) (bd : Option 𝒱.V) (E : Set ℕ) (i : grid0.Coords) (arg4 : Memref sig .tc .smem S32 .f32) (harg4 : arg4.IsWhole) (arg5 : Memref sig .tc .smem S4 .f32) (harg5 : arg5.IsWhole)
  (arg6 : Memref sig .tc .vmem S1x256x256 .fp8e4m3) (harg6 : arg6.IsWhole) (arg7 : Memref sig .tc .vmem S1x16384x256 .fp8e4m3) (harg7 : arg7.IsWhole)
  (arg8 : Memref sig .tc .vmem S1x1x256x16384 .fp8e4m3) (harg8 : arg8.IsWhole) (arg9 : Memref sig .tc .vmem S1x256x256 .bf16) (harg9 : arg9.IsWhole)
  (arg10 : Memref sig .tc .vmem S16384x256 .f32) (harg10 : arg10.IsWhole) (arg11 : Memref sig .tc .vmem S32x1x256 .f32) (harg11 : arg11.IsWhole)
  (v3 : Elt F .f32) (v5 : Vec F S1x256x256 .fp8e4m3) (x3 : Vec F S1x16384x256 .fp8e4m3) (x4 : Vec F S1x1x256x16384 .fp8e4m3)
  (d10 : Vec F S16384x256 .f32) (d11 : Vec F S32x1x256 .f32) (h10 : ∀ j : Fin 32, eWin d10 j = eTile v3 v5 x3 j) (h11 : ∀ j : Fin 32, mWin d11 j = mTile v3 v5 x3 j)
  (k : Fin k0_t2_loop.trips) (acc : FVec F S256x256 .f32) :
    (inv2 c arg8 arg10 arg11 v3 v5 x3 x4 d10 d11 k.val acc : sProp 𝕄)
      ⊢ wp frame (wpE (defs₀ (F := F)) 𝒱 (c : Thread nD τ) bd) E (k0_t2_body (F := F) i arg4 harg4 arg5 harg5 arg6 harg6 arg7 harg7 arg8 harg8 arg9 harg9 arg10 harg10 arg11 harg11 (state1 v3 v5 x3 32).1 (state1 v3 v5 x3 32).2 k acc)
        (inv2 c arg8 arg10 arg11 v3 v5 x3 x4 d10 d11 (k.val + 1)) := by
  unfold inv2
  iintro ⟨H8, H10, H11, %hacc⟩
  subst hacc
  iapply (wp_wand_r Idealize.ShloMosaic.frame (wpE (defs₀ (F := F)) 𝒱 (c : Thread nD τ) bd) E)
  isplitl [H8 H10 H11]
  · iapply (trip2 𝒱 c bd E i arg4 harg4 arg5 harg5 arg6 harg6 arg7 harg7 arg8 harg8 arg9 harg9 arg10 harg10 arg11 harg11 _ _ x4 d10 d11 k (state2 v3 v5 x3 x4 k.val))
    isplitl [H8]; · iexact H8
    isplitl [H10]; · iexact H10
    iexact H11
  · iintro %yld ⟨%hy, H8, H10, H11⟩
    isplitl [H8]; · iexact H8
    isplitl [H10]; · iexact H10
    isplitl [H11]; · iexact H11
    ipureintro
    rw [h10, h11] at hy
    exact hy.trans (state2_succ v3 v5 x3 x4 (t2 k)).symm

set_option maxHeartbeats 1000000 in
/-- THE BODY: on whole staging memrefs, the inputs' at their blocks, it ends with the output's at `outTile` of them. -/
theorem run (c : Dev nD) (i : grid0.Coords) (arg4 : Memref sig .tc .smem S32 .f32) (harg4 : arg4.IsWhole) (arg5 : Memref sig .tc .smem S4 .f32) (harg5 : arg5.IsWhole)
  (arg6 : Memref sig .tc .vmem S1x256x256 .fp8e4m3) (harg6 : arg6.IsWhole) (arg7 : Memref sig .tc .vmem S1x16384x256 .fp8e4m3) (harg7 : arg7.IsWhole)
  (arg8 : Memref sig .tc .vmem S1x1x256x16384 .fp8e4m3) (harg8 : arg8.IsWhole) (arg9 : Memref sig .tc .vmem S1x256x256 .bf16) (harg9 : arg9.IsWhole)
  (arg10 : Memref sig .tc .vmem S16384x256 .f32) (harg10 : arg10.IsWhole) (arg11 : Memref sig .tc .vmem S32x1x256 .f32) (harg11 : arg11.IsWhole)
    (x0 : Vec F S32 .f32) (x1 : Vec F S4 .f32) (x2 : Vec F S1x256x256 .fp8e4m3) (x3 : Vec F S1x16384x256 .fp8e4m3) (x4 : Vec F S1x1x256x16384 .fp8e4m3)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outTile i x0 x1 x2 x3 x4) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_fp8_attention i arg4 harg4 arg5 harg5 arg6 harg6 arg7 harg7 arg8 harg8 arg9 harg9 arg10 harg10 arg11 harg11) K := by
  simp only [cc0_gqa_fp8_attention_eq_skeleton]; unfold cc0_gqa_fp8_attention_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, %hs0, HS0⟩, ⟨%ds1, %fs1, %hs1, HS1⟩, Hk⟩
  set_option sl_exec.maxSteps 4 in sl_exec
  have e0 : run.sl.r c i arg4 f0 = csWord i x0 := by
    subst hf0; exact word0 i arg4.view f0 _
  have e2 : View.readAt (Elt F) arg6.view (Rect.unit ![0, 0, 0] S1x256x256.size inb_S1x256x256_S1x256x256_0_0_0).toLoadRect f2 = x2 := by
    subst hf2; exact View.readAt_full _ _ _
  sl_for (inv1 c arg7 arg10 arg11 (run.sl.r c i arg4 f0) (View.readAt (Elt F) arg6.view (Rect.unit ![0, 0, 0] S1x256x256.size inb_S1x256x256_S1x256x256_0_0_0).toLoadRect f2) x3) $$ [H3 HS0 HS1]
  case region =>
    intro k acc
    exact step1 Variants.none c none E i arg4 harg4 arg5 harg5 arg6 harg6 arg7 harg7 arg8 harg8 arg9 harg9 arg10 harg10 arg11 harg11 _ _ x3 k acc
  · unfold inv1 owns
    isplitl [H3]
    · iexists _; isplitr; swap; · iexact H3
      ipureintro; exact hf3
    isplitl [HS0]
    · iexists ds0
      isplitr; · ipureintro; intro j hj; exact absurd hj (Nat.not_lt_zero _)
      iexists _; isplitr; swap; · iexact HS0
      ipureintro; exact hs0
    isplitl [HS1]
    · iexists ds1
      isplitr; · ipureintro; intro j hj; exact absurd hj (Nat.not_lt_zero _)
      iexists _; isplitr; swap; · iexact HS1
      ipureintro; exact hs1
    ipureintro; rfl
  iintro %acc HI
  obtain ⟨am, al⟩ := acc
  rw [e0, e2]
  unfold inv1 owns
  icases HI with ⟨⟨%f3', %hf3', H3⟩, ⟨%d10, %h10, ⟨%f10, %hf10, HS0⟩⟩, ⟨%d11, %h11, ⟨%f11, %hf11, HS1⟩⟩, %hacc⟩
  have hacc' : (am, al) = state1 (csWord i x0) x2 x3 32 := hacc.trans (congrArg _ trips1)
  have hm : am = (state1 (csWord i x0) x2 x3 32).1 := congrArg Prod.fst hacc'
  have hl : al = (state1 (csWord i x0) x2 x3 32).2 := congrArg Prod.snd hacc'
  have h10' : ∀ j : Fin 32, eWin d10 j = eTile (csWord i x0) x2 x3 j := fun j => h10 j (j.isLt.trans_eq trips1.symm)
  have h11' : ∀ j : Fin 32, mWin d11 j = mTile (csWord i x0) x2 x3 j := fun j => h11 j (j.isLt.trans_eq trips1.symm)
  clear hacc h10 h11 hacc'
  subst hm hl
  sl_respell []
  sl_for (inv2 c arg8 arg10 arg11 (csWord i x0) x2 x3 x4 d10 d11) $$ [H4 HS0 HS1]
  case region =>
    intro k acc
    exact step2 Variants.none c none E i arg4 harg4 arg5 harg5 arg6 harg6 arg7 harg7 arg8 harg8 arg9 harg9 arg10 harg10 arg11 harg11 _ _ x3 x4 d10 d11 h10' h11' k acc
  · unfold inv2 owns
    isplitl [H4]
    · iexists _; isplitr; swap; · iexact H4
      ipureintro; exact hf4
    isplitl [HS0]
    · iexists _; isplitr; swap; · iexact HS0
      ipureintro; exact hf10
    isplitl [HS1]
    · iexists _; isplitr; swap; · iexact HS1
      ipureintro; exact hf11
    ipureintro; rfl
  iintro %acc HI
  unfold inv2 owns
  icases HI with ⟨⟨%f4', %hf4', H4⟩, ⟨%f10', %hf10', HS0⟩, ⟨%f11', %hf11', HS1⟩, %hacc⟩
  have hacc' : acc = state2 (csWord i x0) x2 x3 x4 32 := hacc.trans (congrArg _ trips2)
  clear hacc
  subst hacc'
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3'
  isplitl [H4]
  · iexists _; isplitr; swap; · iexact H4
    ipureintro; exact hf4'
  isplitl [H5]
  · iexists _; isplitr; swap; · iexact H5
    ipureintro
    refine (View.read_writes_full (Val := Elt F) arg9.view f5 inb_S1x256x256_S1x256x256_0_0_0 _ []).trans ?_
    subst hf1
    exact congrArg (k0_pay11 (state2 (csWord i x0) x2 x3 x4 32)) (word1 i arg5.view f1 _)
  isplitl [HS0]
  · iexists _, _; isplitr; swap; · iexact HS0
    ipureintro; rfl
  iexists _, _; isplitr; swap; · iexact HS1
  ipureintro; rfl

end Cert.KernelIdeal.Body

end
-- ==== Proof.KFrame.lean ====
/-
  The idealized kernel's run with its output named: every grid point leaves `Body.outTile` of its input blocks in the
  output's staging buffer; the frame follows, and the result array's contents as the library computes them.
-/
module

public import proofs.«01_k».proof.Proof.Body
public import Idealize.ShloMosaic.Lib.Claim

@[expose] public section

set_option maxRecDepth 16384

noncomputable section

namespace Cert.KernelIdeal.KFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the output's staging buffer holds after the body at point `t`. -/
def outAt (c : Dev nD) (t : Fin cfg0.N) : Vec F S1x256x256 .bf16 :=
  Body.outTile (grid0.coords t) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outAt
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (Body.run c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution ends, with the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.KFrame

end
-- ==== Proof.KHost.lean ====
/-
  The arrays that the kernel's host prefix computes, read at an index over the extended reals.
-/
module

public import proofs.«01_k».proof.Proof.KFrame
public import Idealize.ShloMosaic.Lib.Pipeline.ValueKit
public import Idealize.ShloMosaic.Lib.Pointwise

@[expose] public section

set_option maxRecDepth 16384

noncomputable section

namespace Cert.KernelIdeal.KHost

open Idealize.ShloMosaic Idealize.ShloMosaic.TcCoe Idealize.SL.Sem
open Cert.KernelIdeal Cert.KernelIdeal.Gen

/-- An extended real out of a buffer of f32 words. -/
abbrev f32At {s : Shape} (x : FVec Idealize.ShloMosaic.Ideal s .f32) (i : s.Idx) : EReal := x i

variable (m : (ℓ : Loc nD τ sig) → Buf (Elt Idealize.ShloMosaic.Ideal) ℓ)

/-- The combined scores' scale of head `h`. -/
theorem V6_at (c : Dev nD) (h : Fin 32) :
    V m c main_v6 (ix1 h) = f32At (s := S32) (m ((c : Thread nD τ).loc main_arg1)) (ix1 h) * f32At (s := S4) (m ((c : Thread nD τ).loc main_arg3)) (ix1 (⟨h.val / 8, by omega⟩ : Fin 4))
      * Ideal.ofBits .f32 0x3D800000#32 := by
  entry_read
  pointwise
  have e : (⟨h.val / 8 * 8 + h.val % 8, by omega⟩ : Fin 32) = h := Fin.ext (by show h.val / 8 * 8 + h.val % 8 = h.val; omega)
  rw [e]

/-- The output's scale of key head `k`. -/
theorem V8_at (c : Dev nD) (k : Fin 4) :
    V m c main_v8 (ix1 k) = f32At (s := S4) (m ((c : Thread nD τ).loc main_arg5)) (ix1 k) * Ideal.ofBits .f32 0x3B800000#32 := by
  entry_read
  pointwise

/-- The values with their rows last. -/
theorem V10_at (c : Dev nD) (b : Fin 2) (k : Fin 4) (d : Fin 256) (s : Fin 16384) :
    V m c main_v10 (ix4 b k d s) = m ((c : Thread nD τ).loc main_arg4) (ix3 b s (⟨k.val * 256 + d.val, by omega⟩ : Fin 1024)) := by
  entry_read
  pointwise

end Cert.KernelIdeal.KHost

end
-- ==== Proof.KIdx.lean ====
/-
  Where the kernel's windows lie at each grid point, and that the output's blocks cover its array.
-/
module

public import proofs.«01_k».proof.Proof.KFrame
public import Idealize.ShloMosaic.Lib.Pipeline.ValueKit

@[expose] public section

set_option maxRecDepth 16384

namespace Cert.KernelIdeal.KIdx

open Idealize.ShloMosaic Idealize.ShloMosaic.TcCoe Idealize.SL.Sem
open Cert.KernelIdeal Cert.KernelIdeal.Gen

/-- The block index of every window at every grid point. -/
theorem idx : ∀ t : Fin cfg0.N,
    win0_0.index t = ![0] ∧ win0_1.index t = ![0]
    ∧ win0_2.index t = ![(grid0.coords t 0).val, (grid0.coords t 2).val, (grid0.coords t 1).val * 8 + (grid0.coords t 3).val]
    ∧ win0_3.index t = ![(grid0.coords t 0).val, 0, (grid0.coords t 1).val]
    ∧ win0_4.index t = ![(grid0.coords t 0).val, (grid0.coords t 1).val, 0, 0]
    ∧ win0_5.index t = ![(grid0.coords t 0).val, (grid0.coords t 2).val, (grid0.coords t 1).val * 8 + (grid0.coords t 3).val] :=
  (by decide +kernel : ∀ t : Fin grid0.N, _)

/-- The output's blocks cover its array. -/
theorem covers : (cfg0.win 5).Covers := by decide +kernel

end Cert.KernelIdeal.KIdx
-- ==== Proof.KBlocks.lean ====
/-
  The input blocks of a grid point, read at coordinates of the arrays they are cut from.
-/
module

public import proofs.«01_k».proof.Proof.KHost
public import proofs.«01_k».proof.Proof.KIdx

@[expose] public section

set_option maxRecDepth 16384

noncomputable section

namespace Cert.KernelIdeal.KBlocks

open Idealize.ShloMosaic Idealize.ShloMosaic.TcCoe Idealize.SL.Sem
open Cert.KernelIdeal Cert.KernelIdeal.Gen Cert.KernelIdeal.KIdx

variable (m : (ℓ : Loc nD τ sig) → Buf (Elt Idealize.ShloMosaic.Ideal) ℓ)

/-- A grid point's batch, key head, query block and query head of the group. -/
def ib (t : Fin cfg0.N) : Fin 2 := ⟨(grid0.coords t 0).val, (grid0.coords t 0).isLt⟩
def ik (t : Fin cfg0.N) : Fin 4 := ⟨(grid0.coords t 1).val, (grid0.coords t 1).isLt⟩
def iq (t : Fin cfg0.N) : Fin 64 := ⟨(grid0.coords t 2).val, (grid0.coords t 2).isLt⟩
def ig (t : Fin cfg0.N) : Fin 8 := ⟨(grid0.coords t 3).val, (grid0.coords t 3).isLt⟩

theorem blk0 (c : Dev nD) (t : Fin cfg0.N) (h : Fin 32) : iblk m c 0 t (ix1 h) = V m c main_v6 (ix1 h) := by
  blk_ext [iblk, idx t]

theorem blk1 (c : Dev nD) (t : Fin cfg0.N) (h : Fin 4) : iblk m c 1 t (ix1 h) = V m c main_v8 (ix1 h) := by
  blk_ext [iblk, idx t]

theorem blk2 (c : Dev nD) (t : Fin cfg0.N) (q d : Fin 256) :
    iblk m c 2 t (ix3 (0 : Fin 1) q d) = m ((c : Thread nD τ).loc main_arg0) (ix3 (ib t) (⟨(iq t).val * 256 + q.val, by omega⟩ : Fin 16384)
      (⟨(ik t).val * 2048 + (ig t).val * 256 + d.val, by omega⟩ : Fin 8192)) := by
  refine Eq.trans ?_ (congrFun (V_main_arg0 m c) _)
  unfold ib iq ik ig
  blk_ext [iblk, idx t]

theorem blk3 (c : Dev nD) (t : Fin cfg0.N) (s : Fin 16384) (d : Fin 256) :
    iblk m c 3 t (ix3 (0 : Fin 1) s d) = m ((c : Thread nD τ).loc main_arg2) (ix3 (ib t) s
      (⟨(ik t).val * 256 + d.val, by omega⟩ : Fin 1024)) := by
  refine Eq.trans ?_ (congrFun (V_main_arg2 m c) _)
  unfold ib ik
  blk_ext [iblk, idx t]

theorem blk4 (c : Dev nD) (t : Fin cfg0.N) (d : Fin 256) (s : Fin 16384) :
    iblk m c 4 t (ix4 (0 : Fin 1) (0 : Fin 1) d s) = m ((c : Thread nD τ).loc main_arg4) (ix3 (ib t) s
      (⟨(ik t).val * 256 + d.val, by omega⟩ : Fin 1024)) := by
  refine Eq.trans ?_ (KHost.V10_at m c (ib t) (ik t) d s)
  unfold ib ik
  blk_ext [iblk, idx t]

end Cert.KernelIdeal.KBlocks

end
-- ==== Proof.Softmax.lean ====
/-
  The online softmax over the extended reals: the facts about exponentials,
  maxima and sums that the kernel's running maximum and running sum rest on.
-/
module

public import Idealize.ShloMosaic.Lib.Pointwise

@[expose] public section

noncomputable section

namespace Cert.Softmax

open Idealize.ShloMosaic

/-- The base-two logarithm of Euler's number. -/
def L : EReal := (((Real.log 2)⁻¹ : ℝ) : EReal)

/-- The f32 pattern of the fp8 scale is the real 256. -/
theorem ofBits_256 : Ideal.ofBits .f32 0x43800000#32 = ((256 : ℝ) : EReal) := by
  simp [Ideal.ofBits, Ideal.ieee, -EReal.coe_mul]; norm_num

/-- The f32 pattern of minus infinity is the least extended real. -/
theorem ofBits_neg_inf : Ideal.ofBits .f32 0xFF800000#32 = ⊥ := by
  simp [Ideal.ofBits, Ideal.ieee]

/-- The logarithm of two is positive. -/
theorem log_two_pos : 0 < Real.log 2 := Real.log_pos (by norm_num)

theorem inv_log_two_pos : 0 < (Real.log 2)⁻¹ := inv_pos.mpr log_two_pos

/-- Two to the power minus infinity is zero. -/
theorem exp2_bot : Ideal.exp2 ⊥ = 0 := rfl

/-- Two to a real power is the real power. -/
theorem exp2_coe (r : ℝ) : Ideal.exp2 (r : EReal) = (((2 : ℝ) ^ r : ℝ) : EReal) := rfl

/-- Two to any power is not negative. -/
theorem exp2_nonneg (x : EReal) : 0 ≤ Ideal.exp2 x := by
  induction x using EReal.rec with
  | bot => exact le_refl _
  | top => exact le_top
  | coe r => rw [exp2_coe]; exact_mod_cast (Real.rpow_pos_of_pos (by norm_num) r).le

/-- Rebasing an exponential from a maximum to a larger one: for `t ≤ a ≤ b` the powers of
    `t - a` and `a - b` multiply to the power of `t - b`, at the infinities too. -/
theorem exp2_rebase {t a b : EReal} (hta : t ≤ a) (hab : a ≤ b) :
    Ideal.exp2 (t - a) * Ideal.exp2 (a - b) = Ideal.exp2 (t - b) := by
  induction t using EReal.rec with
  | bot =>
    have h : ∀ x : EReal, (⊥ : EReal) - x = ⊥ := fun x => by rw [sub_eq_add_neg, EReal.bot_add]
    rw [h, h, exp2_bot, zero_mul]
  | top =>
    obtain rfl : a = ⊤ := top_le_iff.mp hta
    obtain rfl : b = ⊤ := top_le_iff.mp hab
    have h : (⊤ : EReal) - ⊤ = ⊥ := rfl
    rw [h, exp2_bot, zero_mul]
  | coe t =>
    have hb : ∀ x : EReal, x - ⊤ = ⊥ := fun x => by
      rw [sub_eq_add_neg, EReal.neg_top, EReal.add_bot]
    induction b using EReal.rec with
    | bot => exact absurd (le_antisymm (hta.trans hab) bot_le) (EReal.coe_ne_bot t)
    | top => rw [hb, hb, exp2_bot, mul_zero]
    | coe b =>
      induction a using EReal.rec with
      | bot => exact absurd (le_antisymm hta bot_le) (EReal.coe_ne_bot t)
      | top => exact absurd (top_le_iff.mp hab) (EReal.coe_ne_top b)
      | coe a =>
        rw [← EReal.coe_sub, ← EReal.coe_sub, ← EReal.coe_sub, exp2_coe, exp2_coe, exp2_coe,
          ← EReal.coe_mul, ← Real.rpow_add (by norm_num)]
        congr 2
        ring

/-- A factor distributes over a sum of terms none of which is negative. -/
theorem sum_mul_nonneg {ι : Type*} (s : Finset ι) (f : ι → EReal) (c : EReal) (hf : ∀ i, 0 ≤ f i) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a) (Finset.sum_nonneg fun i _ => hf i), ih]

/-- The maximum folded from minus infinity is the least upper bound. -/
theorem fold_max_eq_sup {ι : Type*} (s : Finset ι) (f : ι → EReal) :
    s.fold max ⊥ f = s.sup f := rfl

/-- The natural exponential is the power of two of the scaled argument. -/
theorem exp_eq_exp2 (x : EReal) : Ideal.exp x = Ideal.exp2 (x * L) := by
  induction x using EReal.rec with
  | bot =>
    rw [show (⊥ : EReal) * L = ⊥ from EReal.bot_mul_coe_of_pos inv_log_two_pos]; rfl
  | top =>
    rw [show (⊤ : EReal) * L = ⊤ from EReal.top_mul_coe_of_pos inv_log_two_pos]; rfl
  | coe r =>
    rw [L, ← EReal.coe_mul, exp2_coe]
    show ((Real.exp r : ℝ) : EReal) = _
    congr 1
    rw [Real.rpow_def_of_pos (by norm_num)]
    congr 1
    field_simp [log_two_pos.ne']

/-- Scaling by the positive constant distributes over a difference, at the infinities too. -/
theorem sub_mul_L (a b : EReal) : (a - b) * L = a * L - b * L := by
  rw [L]
  have hp := inv_log_two_pos
  have h1 : (⊥ : EReal) * (((Real.log 2)⁻¹ : ℝ) : EReal) = ⊥ := EReal.bot_mul_coe_of_pos hp
  have h2 : (⊤ : EReal) * (((Real.log 2)⁻¹ : ℝ) : EReal) = ⊤ := EReal.top_mul_coe_of_pos hp
  induction a using EReal.rec with
  | bot =>
    rw [h1, sub_eq_add_neg, sub_eq_add_neg, EReal.bot_add, EReal.bot_add, h1]
  | top =>
    induction b using EReal.rec with
    | bot =>
      rw [h1, h2]
      exact h2
    | top =>
      rw [h2]
      exact h1
    | coe b => rw [EReal.top_sub_coe, h2, ← EReal.coe_mul, EReal.top_sub_coe]
  | coe a =>
    induction b using EReal.rec with
    | bot =>
      rw [h1, EReal.coe_sub_bot, ← EReal.coe_mul, EReal.coe_sub_bot, h2]
    | top =>
      rw [h2, sub_eq_add_neg, sub_eq_add_neg, EReal.neg_top, EReal.add_bot, EReal.add_bot, h1]
    | coe b =>
      rw [← EReal.coe_sub, ← EReal.coe_mul, ← EReal.coe_mul, ← EReal.coe_mul, ← EReal.coe_sub]
      congr 1
      ring

/-- Scaling by the positive constant preserves order. -/
theorem mul_L_mono {a b : EReal} (h : a ≤ b) : a * L ≤ b * L :=
  mul_le_mul_of_nonneg_right h (by rw [L]; exact_mod_cast inv_log_two_pos.le)

/-- Scaling by the positive constant commutes with a maximum over a finite set. -/
theorem sup_mul_L {ι : Type*} (s : Finset ι) (f : ι → EReal) :
    s.sup (fun i => f i * L) = s.sup f * L := by
  refine (Finset.comp_sup_eq_sup_comp (fun x => x * L) (fun x y => ?_) ?_).symm
  · have hm : Monotone fun x : EReal => x * L := fun a b h => mul_L_mono h
    exact hm.map_sup x y
  · exact EReal.bot_mul_coe_of_pos inv_log_two_pos

/-- A softmax numerator in powers of two is the natural one. -/
theorem exp_sub_sup {ι : Type*} (s : Finset ι) (f : ι → EReal) (x : EReal) :
    Ideal.exp (x - s.sup f) = Ideal.exp2 (x * L - s.sup fun i => f i * L) := by
  rw [exp_eq_exp2, sub_mul_L, sup_mul_L]

/-- Dividing a positive finite constant is multiplying the reciprocal by it, at zero too. -/
theorem div_eq_recip_mul {r : ℝ} (hr : 0 < r) (l : EReal) :
    Ideal.div (r : EReal) l = Ideal.div 1 l * (r : EReal) := by
  unfold Ideal.div
  split
  · rw [if_pos (by exact_mod_cast hr), if_pos zero_lt_one, EReal.top_mul_coe_of_pos hr]
  · rw [one_mul, mul_comm]

/-- What the running maximum and the running sum of an online softmax hold after `n` chunks:
    the least upper bound of all terms so far, and the sum of their powers below it. -/
theorem online {T : ℕ} (t : ℕ → Fin T → EReal) (M l : ℕ → EReal) (n : ℕ)
    (hM0 : M 0 = ⊥) (hl0 : l 0 = 0)
    (hM : ∀ k < n, M (k + 1) = max (M k) (Finset.univ.sup (t k)))
    (hl : ∀ k < n, l (k + 1) = l k * Ideal.exp2 (M k - M (k + 1))
      + ∑ s, Ideal.exp2 (t k s - M (k + 1))) :
    ∀ k ≤ n, M k = (Finset.range k).sup (fun j => Finset.univ.sup (t j)) ∧
      l k = ∑ j ∈ Finset.range k, ∑ s, Ideal.exp2 (t j s - M k) := by
  intro k
  induction k with
  | zero => intro _; exact ⟨by rw [hM0]; rfl, by rw [hl0]; rfl⟩
  | succ k ih =>
    intro hk
    obtain ⟨ihM, ihl⟩ := ih (by omega)
    refine ⟨?_, ?_⟩
    · rw [hM k (by omega), ihM, Finset.range_add_one, Finset.sup_insert, max_comm]
    · rw [hl k (by omega), Finset.sum_range_succ, ihl,
        sum_mul_nonneg _ _ _ fun j => Finset.sum_nonneg fun s _ => exp2_nonneg _]
      refine congrArg (· + _) (Finset.sum_congr rfl fun j hj => ?_)
      rw [sum_mul_nonneg _ _ _ fun s => exp2_nonneg _]
      refine Finset.sum_congr rfl fun s _ => exp2_rebase ?_ ?_
      · rw [ihM]
        exact (Finset.le_sup (f := t j) (Finset.mem_univ s)).trans
          (Finset.le_sup (f := fun j => Finset.univ.sup (t j)) hj)
      · rw [hM k (by omega)]; exact le_max_left _ _

/-- The running maximum only grows, and each term lies below the maximum after its chunk. -/
theorem le_running {T : ℕ} (t : ℕ → Fin T → EReal) (M : ℕ → EReal) (n : ℕ)
    (hM : ∀ k < n, M (k + 1) = max (M k) (Finset.univ.sup (t k))) :
    (∀ k < n, ∀ s, t k s ≤ M (k + 1)) ∧ ∀ j ≤ n, ∀ k ≤ j, M k ≤ M j := by
  refine ⟨fun k hk s => ?_, fun j => ?_⟩
  · rw [hM k hk]
    exact (Finset.le_sup (f := t k) (Finset.mem_univ s)).trans (le_max_right _ _)
  · induction j with
    | zero => intro _ k hk; obtain rfl : k = 0 := by omega
              exact le_refl _
    | succ j ih =>
      intro hj k hk
      rcases Nat.lt_or_ge k (j + 1) with h | h
      · refine (ih (by omega) k (by omega)).trans ?_
        rw [hM j (by omega)]; exact le_max_left _ _
      · obtain rfl : k = j + 1 := by omega
        exact le_refl _

/-- A sum taken in `J` runs of `T` is the sum over all `J * T` terms. -/
theorem sum_runs (J T N : ℕ) (hN : N = J * T) (f : ℕ → EReal) :
    ∑ j ∈ Finset.range J, ∑ s : Fin T, f (T * j + s.val) = ∑ i : Fin N, f i.val := by
  subst hN
  rw [Fin.sum_univ_tiles J T rfl, Finset.sum_range]
  refine Finset.sum_congr rfl fun j _ => Finset.sum_congr rfl fun s _ => ?_
  rw [mul_comm]

/-- A maximum taken in `J` runs of `T` is the maximum over all `J * T` terms. -/
theorem sup_runs (J T N : ℕ) (hN : N = J * T) (f : ℕ → EReal) :
    (Finset.range J).sup (fun j => Finset.univ.sup fun s : Fin T => f (T * j + s.val))
      = Finset.univ.sup fun i : Fin N => f i.val := by
  subst hN
  apply le_antisymm
  · refine Finset.sup_le fun j hj => Finset.sup_le fun s _ => ?_
    have hj' := Finset.mem_range.mp hj
    have hlt : T * j + s.val < J * T := by
      have := Nat.mul_le_mul_right T (Nat.succ_le_of_lt hj')
      have hs := s.isLt
      rw [Nat.succ_mul] at this
      rw [mul_comm T j]; omega
    exact Finset.le_sup (f := fun i : Fin (J * T) => f i.val) (Finset.mem_univ ⟨T * j + s.val, hlt⟩)
  · refine Finset.sup_le fun i _ => ?_
    have h0 : 0 < J * T := Nat.lt_of_le_of_lt (Nat.zero_le _) i.isLt
    have hT : 0 < T := Nat.pos_of_ne_zero fun h => by
      rw [h] at h0; simp at h0
    have hq : i.val / T < J := Nat.div_lt_of_lt_mul (i.isLt.trans_eq (mul_comm J T))
    have h := (Finset.le_sup (f := fun s : Fin T => f (T * (i.val / T) + s.val))
      (Finset.mem_univ ⟨i.val % T, Nat.mod_lt _ hT⟩)).trans
      (Finset.le_sup (f := fun j => Finset.univ.sup fun s : Fin T => f (T * j + s.val))
        (Finset.mem_range.mpr hq))
    simpa only [Nat.div_add_mod] using h

end Cert.Softmax

end
-- ==== Proof.KRead.lean ====
/-
  The kernel body's values at the extended reals, index by index.
-/
module

public import proofs.«01_k».proof.Proof.Body
public import proofs.«01_k».proof.Proof.Softmax

@[expose] public section

set_option maxRecDepth 16384

noncomputable section

namespace Cert.KernelIdeal.KRead

open Cert.Softmax Idealize.ShloMosaic Idealize.ShloMosaic.TcCoe Idealize.SL.Sem
open Cert.KernelIdeal Cert.KernelIdeal.Gen

theorem pay3_at (v3 : EReal) (v5 : FVec Ideal S1x256x256 .fp8e4m3) (v27 : FVec Ideal S1x512x256 .fp8e4m3) (s : Fin 512) (q : Fin 256) :
    k0_pay3 (F := Ideal) v3 v5 v27 (ix2 s q) = (∑ d : Fin 256, v27 (ix3 0 s d) * v5 (ix3 0 q d)) * (v3 * L) := by
  pointwise [k0_pay3]
  rw [show Named.named (F := Idealize.ShloMosaic.Ideal) κ "log2e" (φ := .f32) 0x3FB8AA3B#32 = L from IdealRules.named_const.ideal_named_scalar _ _ _ _ rfl]

theorem pay4_at (v3 : EReal) (v5 : FVec Ideal S1x256x256 .fp8e4m3) (m : FVec Ideal S1x256 .f32) (v27 : FVec Ideal S1x512x256 .fp8e4m3) (q : Fin 256) :
    k0_pay4 (F := Ideal) v3 v5 m v27 (ix2 0 q) = max (m (ix2 0 q)) (Finset.univ.fold max ⊥ fun s : Fin 512 => k0_pay3 (F := Ideal) v3 v5 v27 (ix2 s q)) := by
  pointwise [k0_pay4]
  rw [ofBits_neg_inf]

theorem pay5_at (v3 : EReal) (v5 : FVec Ideal S1x256x256 .fp8e4m3) (m : FVec Ideal S1x256 .f32) (v27 : FVec Ideal S1x512x256 .fp8e4m3) (s : Fin 512) (q : Fin 256) :
    k0_pay5 (F := Ideal) v3 v5 m v27 (ix2 s q) = Ideal.exp2 (k0_pay3 (F := Ideal) v3 v5 v27 (ix2 s q) - k0_pay4 (F := Ideal) v3 v5 m v27 (ix2 0 q)) := by
  pointwise [k0_pay5]
  rfl

theorem pay6_at (v3 : EReal) (v5 : FVec Ideal S1x256x256 .fp8e4m3) (m l : FVec Ideal S1x256 .f32) (v27 : FVec Ideal S1x512x256 .fp8e4m3) (q : Fin 256) :
    k0_pay6 (F := Ideal) v3 v5 m l v27 (ix2 0 q) = l (ix2 0 q) * Ideal.exp2 (m (ix2 0 q) - k0_pay4 (F := Ideal) v3 v5 m v27 (ix2 0 q))
      + ∑ s : Fin 512, k0_pay5 (F := Ideal) v3 v5 m v27 (ix2 s q) := by
  pointwise [k0_pay6]
  rfl

theorem pay7_at (v3 : EReal) (v5 : FVec Ideal S1x256x256 .fp8e4m3) (m : FVec Ideal S1x256 .f32) (v27 : FVec Ideal S1x512x256 .fp8e4m3) (s : Fin 512) (q : Fin 256) :
    k0_pay7 (F := Ideal) v3 v5 m v27 (ix2 s q) = k0_pay5 (F := Ideal) v3 v5 m v27 (ix2 s q) := by
  pointwise [k0_pay7]

theorem pay8_at (v3 : EReal) (v5 : FVec Ideal S1x256x256 .fp8e4m3) (m : FVec Ideal S1x256 .f32) (v27 : FVec Ideal S1x512x256 .fp8e4m3) (q : Fin 256) :
    k0_pay8 (F := Ideal) v3 v5 m v27 (ix3 0 0 q) = k0_pay4 (F := Ideal) v3 v5 m v27 (ix2 0 q) := by
  pointwise [k0_pay8]

theorem pay10_at (m l : FVec Ideal S1x256 .f32) (acc : FVec Ideal S256x256 .f32) (mc : FVec Ideal S1x1x256 .f32) (e : FVec Ideal S512x256 .f32) (vt : FVec Ideal S1x1x256x512 .fp8e4m3) (d q : Fin 256) :
    k0_pay10 (F := Ideal) m l acc mc e vt (ix2 d q) = acc (ix2 d q) + ∑ s : Fin 512, vt (ix4 0 0 d s) *
      min (Ideal.ofBits .f32 0x43E00000#32) (max (Ideal.ofBits .f32 0xC3E00000#32) (e (ix2 s q) * (Ideal.exp2 (mc (ix3 0 0 q) - m (ix2 0 q)) * Ideal.div (Ideal.ofBits .f32 0x43800000#32) (l (ix2 0 q))))) := by
  pointwise [k0_pay10]
  rfl

theorem pay11_at (acc : FVec Ideal S256x256 .f32) (o : EReal) (q d : Fin 256) :
    k0_pay11 (F := Ideal) acc o (ix3 0 q d) = acc (ix2 d q) * o := by
  pointwise [k0_pay11]

theorem pay1_at (q : Fin 256) : (k0_pay1 (F := Ideal)) (ix2 0 q) = ⊥ := by
  pointwise [k0_pay1]
  exact ofBits_neg_inf

theorem pay2_at (q : Fin 256) : (k0_pay2 (F := Ideal)) (ix2 0 q) = 0 := by
  pointwise [k0_pay2]

theorem pay9_at (d q : Fin 256) : (k0_pay9 (F := Ideal)) (ix2 d q) = 0 := by
  pointwise [k0_pay9]

theorem kChunk_at (x3 : FVec Ideal S1x16384x256 .fp8e4m3) (k : Fin 32) (s : Fin 512) (d : Fin 256) :
    Body.kChunk (F := Ideal) x3 k (ix3 0 s d) = x3 (ix3 0 ⟨512 * k.val + s.val, by omega⟩ d) := by
  refine congrArg x3 (funext fun a => Fin.ext ?_)
  match a with
  | ⟨0, _⟩ => rfl
  | ⟨1, _⟩ => show 512 * k.val + 1 * s.val = 512 * k.val + s.val; omega
  | ⟨2, _⟩ => show 0 + 1 * d.val = d.val; omega

theorem vChunk_at (x4 : FVec Ideal S1x1x256x16384 .fp8e4m3) (k : Fin 32) (s : Fin 512) (d : Fin 256) :
    Body.vChunk (F := Ideal) x4 k (ix4 0 0 d s) = x4 (ix4 0 0 d ⟨512 * k.val + s.val, by omega⟩) := by
  refine congrArg x4 (funext fun a => Fin.ext ?_)
  match a with
  | ⟨0, _⟩ => rfl
  | ⟨1, _⟩ => rfl
  | ⟨2, _⟩ => show 0 + 1 * d.val = d.val; omega
  | ⟨3, _⟩ => show 512 * k.val + 1 * s.val = 512 * k.val + s.val; omega

end Cert.KernelIdeal.KRead

end
-- ==== Proof.Spec.lean ====
/-
  The mathematics of the attention at one output element, over the extended reals, as the reference states it.
-/
module

public import proofs.«01_k».proof.Proof.Softmax

@[expose] public section

noncomputable section

namespace Cert.Spec

open Idealize.ShloMosaic Cert.Softmax

/-- The scaled score of key row `s` for the query row `q` of head `8 * k + g` in batch `b`: the product of the codes
    times the product of the two scales and one sixteenth. -/
def score (a0 : Shape.Idx ⟨3, ![2, 16384, 8192]⟩ → EReal) (a1 : Shape.Idx ⟨1, ![32]⟩ → EReal)
    (a2 : Shape.Idx ⟨3, ![2, 16384, 1024]⟩ → EReal) (a3 : Shape.Idx ⟨1, ![4]⟩ → EReal)
    (b : Fin 2) (k : Fin 4) (g : Fin 8) (q s : Fin 16384) : EReal :=
  (∑ d : Fin 256, a2 (ix3 b s ⟨k.val * 256 + d.val, by omega⟩)
      * a0 (ix3 b q ⟨k.val * 2048 + g.val * 256 + d.val, by omega⟩))
    * (a1 (ix1 ⟨k.val * 8 + g.val, by omega⟩) * a3 (ix1 k) * Ideal.ofBits .f32 0x3D800000#32)

/-- The clipped softmax code of key row `s`: the exponential below the maximum times the reciprocal of the sum of
    exponentials, times 256, clipped at plus and minus 448. -/
def code (sc : Fin 16384 → EReal) (s : Fin 16384) : EReal :=
  min (Ideal.ofBits .f32 0x43E00000#32) (max (Ideal.ofBits .f32 0xC3E00000#32)
    (Ideal.exp (sc s - Finset.univ.sup sc) * Ideal.div 1 (∑ s', Ideal.exp (sc s' - Finset.univ.sup sc))
      * Ideal.ofBits .f32 0x43800000#32))

/-- One element of the attention's output: the codes times column `d` of the values, times the output scale. -/
def result (a0 : Shape.Idx ⟨3, ![2, 16384, 8192]⟩ → EReal) (a1 : Shape.Idx ⟨1, ![32]⟩ → EReal)
    (a2 : Shape.Idx ⟨3, ![2, 16384, 1024]⟩ → EReal) (a3 : Shape.Idx ⟨1, ![4]⟩ → EReal)
    (a4 : Shape.Idx ⟨3, ![2, 16384, 1024]⟩ → EReal) (a5 : Shape.Idx ⟨1, ![4]⟩ → EReal)
    (b : Fin 2) (q : Fin 16384) (k : Fin 4) (g : Fin 8) (d : Fin 256) : EReal :=
  (∑ s : Fin 16384, a4 (ix3 b s ⟨k.val * 256 + d.val, by omega⟩) * code (score a0 a1 a2 a3 b k g q) s)
    * (a5 (ix1 k) * Ideal.ofBits .f32 0x3B800000#32)

/-- The code in powers of two: with the scores scaled by the base-two logarithm of Euler's number, the power of two
    below the maximum times the quotient of 256 by the sum of the powers, clipped. -/
theorem code_eq_exp2 (sc : Fin 16384 → EReal) (s : Fin 16384) :
    code sc s = min (Ideal.ofBits .f32 0x43E00000#32) (max (Ideal.ofBits .f32 0xC3E00000#32)
      (Ideal.exp2 (sc s * L - Finset.univ.sup fun i => sc i * L)
        * Ideal.div (Ideal.ofBits .f32 0x43800000#32) (∑ s', Ideal.exp2 (sc s' * L - Finset.univ.sup fun i => sc i * L)))) := by
  unfold code
  simp only [exp_sub_sup]
  rw [ofBits_256, div_eq_recip_mul (by norm_num), mul_assoc]

/-- Where every score is a real number, the sum of the exponentials below the maximum is not zero: the term of a
    largest score is one. -/
theorem sum_exp_ne_zero (sc : Fin 16384 → EReal) (h : ∀ s, ∃ r : ℝ, sc s = (r : EReal)) :
    ∑ s, Ideal.exp (sc s - Finset.univ.sup sc) ≠ 0 := by
  have hn : ∀ s, 0 ≤ Ideal.exp (sc s - Finset.univ.sup sc) := fun s => by
    rw [exp_eq_exp2]; exact exp2_nonneg _
  obtain ⟨i, _, hi⟩ := Finset.exists_mem_eq_sup Finset.univ ⟨(0 : Fin 16384), Finset.mem_univ _⟩ sc
  obtain ⟨r, hr⟩ := h i
  have h1 : Ideal.exp (sc i - Finset.univ.sup sc) = 1 := by
    rw [hi, hr, ← EReal.coe_sub, sub_self]
    show ((Real.exp 0 : ℝ) : EReal) = 1
    rw [Real.exp_zero]; rfl
  have h2 := Finset.single_le_sum (f := fun s => Ideal.exp (sc s - Finset.univ.sup sc)) (fun s _ => hn s) (Finset.mem_univ i)
  intro h0
  rw [h0] at h2
  rw [h1] at h2
  exact absurd h2 (not_le.mpr zero_lt_one)

/-- So there the code is the one of the quotient: the exponential divided by the sum, times 256, clipped. -/
theorem code_eq_quotient (sc : Fin 16384 → EReal) (h : ∀ s, ∃ r : ℝ, sc s = (r : EReal)) (s : Fin 16384) :
    code sc s = min (Ideal.ofBits .f32 0x43E00000#32) (max (Ideal.ofBits .f32 0xC3E00000#32)
      (Ideal.div (Ideal.exp (sc s - Finset.univ.sup sc)) (∑ s', Ideal.exp (sc s' - Finset.univ.sup sc))
        * Ideal.ofBits .f32 0x43800000#32)) := by
  have h0 := sum_exp_ne_zero sc h
  unfold code Ideal.div
  rw [if_neg h0, if_neg h0, one_mul]

end Cert.Spec

end
-- ==== Proof.KTile.lean ====
/-
  One grid point's output block at the extended reals: the two passes of the online softmax give each element as the
  mathematics states it.
-/
module

public import proofs.«01_k».proof.Proof.KRead
public import proofs.«01_k».proof.Proof.Spec

@[expose] public section

set_option maxRecDepth 16384

noncomputable section

namespace Cert.KernelIdeal.KTile

open Cert.Softmax Idealize.ShloMosaic Idealize.ShloMosaic.TcCoe Idealize.SL.Sem
open Cert.KernelIdeal Cert.KernelIdeal.Gen Cert.KernelIdeal.KRead

variable (c : EReal) (x2 : FVec Ideal S1x256x256 .fp8e4m3) (x3 : FVec Ideal S1x16384x256 .fp8e4m3)
  (x4 : FVec Ideal S1x1x256x16384 .fp8e4m3)

/-- The scaled score of key row `s` for query row `q` of the point's blocks. -/
def sc (q : Fin 256) (s : Fin 16384) : EReal := (∑ d : Fin 256, x3 (ix3 0 s d) * x2 (ix3 0 q d)) * c

/-- The same in base two, over the natural numbers (zero past the last row). -/
def tN (q : Fin 256) (n : ℕ) : EReal := if h : n < 16384 then sc c x2 x3 q ⟨n, h⟩ * L else 0

theorem tN_fin (q : Fin 256) (s : Fin 16384) : tN c x2 x3 q s.val = sc c x2 x3 q s * L := dif_pos s.isLt

/-- Trip `k`'s scores are rows `512 * k` and on. -/
theorem pay3_chunk (k : Fin 32) (s : Fin 512) (q : Fin 256) :
    k0_pay3 (F := Ideal) c x2 (Body.kChunk x3 k) (ix2 s q) = tN c x2 x3 q (512 * k.val + s.val) := by
  rw [pay3_at, tN, dif_pos (by omega), sc, mul_assoc]
  refine congrArg (· * _) (Finset.sum_congr rfl fun d _ => ?_)
  rw [kChunk_at]

/-- The running maximum and the running sum of query row `q` before trip `k`. -/
def M (q : Fin 256) (k : ℕ) : EReal := (Body.state1 (F := Ideal) c x2 x3 k).1 (ix2 0 q)
def l (q : Fin 256) (k : ℕ) : EReal := (Body.state1 (F := Ideal) c x2 x3 k).2 (ix2 0 q)

theorem M_zero (q : Fin 256) : M c x2 x3 q 0 = ⊥ := pay1_at q
theorem l_zero (q : Fin 256) : l c x2 x3 q 0 = 0 := pay2_at q

/-- The maximum after trip `k`, as the trip computes it. -/
theorem pay4_chunk (k : Fin 32) (q : Fin 256) :
    k0_pay4 (F := Ideal) c x2 (Body.state1 c x2 x3 k.val).1 (Body.kChunk x3 k) (ix2 0 q) = M c x2 x3 q (k.val + 1) := by
  unfold M
  rw [Body.state1_succ]

theorem M_succ (q : Fin 256) (k : ℕ) (hk : k < 32) :
    M c x2 x3 q (k + 1) = max (M c x2 x3 q k) (Finset.univ.sup fun s : Fin 512 => tN c x2 x3 q (512 * k + s.val)) := by
  refine (pay4_chunk c x2 x3 ⟨k, hk⟩ q).symm.trans ?_
  rw [pay4_at, fold_max_eq_sup]
  simp only [pay3_chunk]
  rfl

/-- The exponentials of trip `k`. -/
theorem pay5_chunk (k : Fin 32) (s : Fin 512) (q : Fin 256) :
    k0_pay5 (F := Ideal) c x2 (Body.state1 c x2 x3 k.val).1 (Body.kChunk x3 k) (ix2 s q)
      = Ideal.exp2 (tN c x2 x3 q (512 * k.val + s.val) - M c x2 x3 q (k.val + 1)) := by
  rw [pay5_at, pay3_chunk, pay4_chunk]

theorem l_succ (q : Fin 256) (k : ℕ) (hk : k < 32) :
    l c x2 x3 q (k + 1) = l c x2 x3 q k * Ideal.exp2 (M c x2 x3 q k - M c x2 x3 q (k + 1))
      + ∑ s : Fin 512, Ideal.exp2 (tN c x2 x3 q (512 * k + s.val) - M c x2 x3 q (k + 1)) := by
  have h : l c x2 x3 q (k + 1) = k0_pay6 (F := Ideal) c x2 (Body.state1 c x2 x3 k).1 (Body.state1 c x2 x3 k).2 (Body.kChunk x3 ⟨k, hk⟩) (ix2 0 q) := by
    exact congrArg (fun p => p.2 (ix2 0 q)) (Body.state1_succ (F := Idealize.ShloMosaic.Ideal) c x2 x3 ⟨k, hk⟩)
  rw [h, pay6_at, pay4_chunk c x2 x3 ⟨k, hk⟩]
  exact congrArg (_ + ·) (Finset.sum_congr rfl fun s _ => pay5_chunk c x2 x3 ⟨k, hk⟩ s q)

/-- After the first pass: the maximum of all scores and the sum of all their powers below it. -/
theorem pass1 (q : Fin 256) :
    M c x2 x3 q 32 = (Finset.univ.sup fun s => sc c x2 x3 q s * L) ∧
      l c x2 x3 q 32 = ∑ s, Ideal.exp2 (sc c x2 x3 q s * L - Finset.univ.sup fun i => sc c x2 x3 q i * L) := by
  obtain ⟨hM, hl⟩ := online (fun k s => tN c x2 x3 q (512 * k + s.val)) (M c x2 x3 q) (l c x2 x3 q) 32
    (M_zero c x2 x3 q) (l_zero c x2 x3 q) (M_succ c x2 x3 q) (l_succ c x2 x3 q) 32 (le_refl _)
  have e : M c x2 x3 q 32 = Finset.univ.sup fun s => sc c x2 x3 q s * L := by
    rw [hM, sup_runs 32 512 16384 rfl (tN c x2 x3 q)]
    simp only [tN_fin]
  refine ⟨e, ?_⟩
  rw [hl, sum_runs 32 512 16384 rfl (fun n => Ideal.exp2 (tN c x2 x3 q n - M c x2 x3 q 32)), e]
  simp only [tN_fin]

/-- One summand of the second product: a value times the clipped code of row `n`. -/
def term (q d : Fin 256) (n : ℕ) : EReal :=
  if h : n < 16384 then x4 (ix4 0 0 d ⟨n, h⟩) * Spec.code (sc c x2 x3 q) ⟨n, h⟩ else 0

theorem term_fin (q d : Fin 256) (s : Fin 16384) :
    term c x2 x3 x4 q d s.val = x4 (ix4 0 0 d s) * Spec.code (sc c x2 x3 q) s := dif_pos s.isLt

/-- Trip `k` of the second pass adds the summands of its rows. -/
theorem state2_succ_at (q d : Fin 256) (k : ℕ) (hk : k < 32) :
    Body.state2 (F := Ideal) c x2 x3 x4 (k + 1) (ix2 d q) = Body.state2 (F := Ideal) c x2 x3 x4 k (ix2 d q)
      + ∑ s : Fin 512, term c x2 x3 x4 q d (512 * k + s.val) := by
  refine (congrFun (Body.state2_succ (F := Idealize.ShloMosaic.Ideal) c x2 x3 x4 ⟨k, hk⟩) (ix2 d q)).trans ?_
  rw [pay10_at]
  refine congrArg (_ + ·) (Finset.sum_congr rfl fun s _ => ?_)
  have hlt : 512 * k + s.val < 16384 := by omega
  have hE : Body.eTile (F := Ideal) c x2 x3 ⟨k, hk⟩ (ix2 s q)
      = Ideal.exp2 (tN c x2 x3 q (512 * k + s.val) - M c x2 x3 q (k + 1)) :=
    (pay7_at _ _ _ _ _ _).trans (pay5_chunk c x2 x3 ⟨k, hk⟩ s q)
  have hm : Body.mTile (F := Ideal) c x2 x3 ⟨k, hk⟩ (ix3 0 0 q) = M c x2 x3 q (k + 1) :=
    (pay8_at _ _ _ _ _).trans (pay4_chunk c x2 x3 ⟨k, hk⟩ q)
  obtain ⟨h1, h2⟩ := le_running (fun k s => tN c x2 x3 q (512 * k + s.val)) (M c x2 x3 q) 32 (M_succ c x2 x3 q)
  obtain ⟨eM, el⟩ := pass1 c x2 x3 q
  rw [vChunk_at, term, dif_pos hlt, Spec.code_eq_exp2, hE, hm, ← mul_assoc]
  rw [show (Body.state1 (F := Ideal) c x2 x3 32).1 (ix2 0 q) = M c x2 x3 q 32 from rfl,
    show (Body.state1 (F := Ideal) c x2 x3 32).2 (ix2 0 q) = l c x2 x3 q 32 from rfl,
    exp2_rebase (h1 k hk s) (h2 32 (le_refl _) (k + 1) (by omega)), eM, el, tN, dif_pos hlt]

/-- The output block's element at query row `q` and column `d`: the codes times the values, times the output scale. -/
theorem outTile_at (i : grid0.Coords) (x0 : FVec Ideal S32 .f32) (x1 : FVec Ideal S4 .f32) (q d : Fin 256) :
    Body.outTile (F := Ideal) i x0 x1 x2 x3 x4 (ix3 0 q d)
      = (∑ s : Fin 16384, x4 (ix4 0 0 d s) * Spec.code (sc (Body.csWord (F := Idealize.ShloMosaic.Ideal) i x0) x2 x3 q) s) * Body.osWord (F := Idealize.ShloMosaic.Ideal) i x1 := by
  have key : ∀ c : EReal, ∀ k ≤ 32, Body.state2 (F := Ideal) c x2 x3 x4 k (ix2 d q)
      = ∑ j ∈ Finset.range k, ∑ s : Fin 512, term c x2 x3 x4 q d (512 * j + s.val) := by
    intro c k
    induction k with
    | zero => intro _; exact pay9_at d q
    | succ k ih =>
      intro hk
      rw [state2_succ_at c x2 x3 x4 q d k (by omega), ih (by omega), Finset.sum_range_succ]
  refine (pay11_at _ _ q d).trans ?_
  rw [key _ 32 (le_refl _), sum_runs 32 512 16384 rfl (term (Body.csWord (F := Idealize.ShloMosaic.Ideal) i x0) x2 x3 x4 q d)]
  simp only [term_fin]

end Cert.KernelIdeal.KTile

end
-- ==== Proof.KValue.lean ====
/-
  The kernel's result array over the extended reals: each element is `Spec.result` of the arguments.
-/
module

public import proofs.«01_k».proof.Proof.KBlocks
public import proofs.«01_k».proof.Proof.KTile

@[expose] public section

set_option maxRecDepth 16384

noncomputable section

namespace Cert.KernelIdeal.KValue

open Idealize.ShloMosaic Idealize.ShloMosaic.TcCoe Idealize.SL.Sem
open Cert.KernelIdeal Cert.KernelIdeal.Gen Cert.KernelIdeal.KBlocks
open Idealize.ShloMosaic.Pipeline (Dat)

/-- The mathematics of the whole array: element `(b, q, h)` belongs to key head `h / 2048`, query head `h / 256 % 8` of
    its group and column `h % 256`. -/
def whole (a0 : FVec Idealize.ShloMosaic.Ideal S2x16384x8192 .fp8e4m3) (a1 : FVec Idealize.ShloMosaic.Ideal S32 .f32)
    (a2 : FVec Idealize.ShloMosaic.Ideal S2x16384x1024 .fp8e4m3) (a3 : FVec Idealize.ShloMosaic.Ideal S4 .f32)
    (a4 : FVec Idealize.ShloMosaic.Ideal S2x16384x1024 .fp8e4m3) (a5 : FVec Idealize.ShloMosaic.Ideal S4 .f32)
    (b : Fin 2) (q : Fin 16384) (h : Fin 8192) : EReal :=
  Spec.result a0 a1 a2 a3 a4 a5 b q ⟨h.val / 2048, by omega⟩ ⟨h.val / 256 % 8, by omega⟩ ⟨h.val % 256, by omega⟩

variable (m : (ℓ : Loc nD τ sig) → Buf (Elt Idealize.ShloMosaic.Ideal) ℓ)

/-- The same as an array of the kernel's arguments. -/
def G (c : Dev nD) : FVec Idealize.ShloMosaic.Ideal S2x16384x8192 .bf16 := fun i =>
  whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)

/-- The scores' scale that a point reads. -/
theorem csWord_at (c : Dev nD) (t : Fin cfg0.N) :
    Body.csWord (F := Idealize.ShloMosaic.Ideal) (grid0.coords t) (iblk m c 0 t)
      = KHost.f32At (s := S32) (m ((c : Thread nD τ).loc main_arg1)) (ix1 (⟨(ik t).val * 8 + (ig t).val, by omega⟩ : Fin 32))
        * KHost.f32At (s := S4) (m ((c : Thread nD τ).loc main_arg3)) (ix1 (ik t)) * Ideal.ofBits .f32 0x3D800000#32 := by
  have e : (⟨8 * (grid0.coords t 1).val + (grid0.coords t 3).val, Body.head_lt (grid0.coords t)⟩ : Fin 32)
      = ⟨(ik t).val * 8 + (ig t).val, by omega⟩ := Fin.ext (by
    show 8 * (grid0.coords t 1).val + (grid0.coords t 3).val = (grid0.coords t 1).val * 8 + (grid0.coords t 3).val
    omega)
  have e' : (⟨((ik t).val * 8 + (ig t).val) / 8, by omega⟩ : Fin 4) = ik t := Fin.ext (by
    show ((ik t).val * 8 + (ig t).val) / 8 = (ik t).val
    omega)
  refine (blk0 m c t _).trans ?_
  rw [e]
  refine (KHost.V6_at m c _).trans ?_
  rw [e']

/-- The output's scale that a point reads. -/
theorem osWord_at (c : Dev nD) (t : Fin cfg0.N) :
    Body.osWord (F := Idealize.ShloMosaic.Ideal) (grid0.coords t) (iblk m c 1 t)
      = KHost.f32At (s := S4) (m ((c : Thread nD τ).loc main_arg5)) (ix1 (ik t)) * Ideal.ofBits .f32 0x3B800000#32 :=
  (blk1 m c t (ik t)).trans (KHost.V8_at m c (ik t))

/-- A product whose first factor is replaced by an equal one. -/
theorem mul_left_eq {a b : EReal} (h : a = b) (c : EReal) : a * c = b * c := by rw [h]

/-- What a point leaves at row `q` and column `d` of its output block. -/
theorem point (c : Dev nD) (t : Fin cfg0.N) (q d : Fin 256) :
    KFrame.outAt (F := Idealize.ShloMosaic.Ideal) m c t (ix3 (0 : Fin 1) q d)
      = Spec.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (ib t) (⟨(iq t).val * 256 + q.val, by omega⟩ : Fin 16384) (ik t) (ig t) d := by
  have hsc : KTile.sc (Body.csWord (F := Idealize.ShloMosaic.Ideal) (grid0.coords t) (iblk m c 0 t)) (iblk m c 2 t) (iblk m c 3 t) q
      = Spec.score (m ((c : Thread nD τ).loc main_arg0)) (m ((c : Thread nD τ).loc main_arg1)) (m ((c : Thread nD τ).loc main_arg2))
        (m ((c : Thread nD τ).loc main_arg3)) (ib t) (ik t) (ig t) (⟨(iq t).val * 256 + q.val, by omega⟩ : Fin 16384) := by
    funext s
    unfold KTile.sc Spec.score
    rw [csWord_at]
    refine congrArg (fun x : EReal => x * _) (Finset.sum_congr rfl fun e _ => ?_)
    exact congrArg₂ (fun x y : EReal => x * y) (blk3 m c t s e) (blk2 m c t q e)
  refine (KTile.outTile_at (iblk m c 2 t) (iblk m c 3 t) (iblk m c 4 t) (grid0.coords t) (iblk m c 0 t) (iblk m c 1 t) q d).trans ?_
  rw [hsc, osWord_at]
  unfold Spec.result
  exact mul_left_eq (Finset.sum_congr rfl fun s _ => mul_left_eq (blk4 m c t d s) _) _

/-- The same, as the whole array has it at the place the block gives the element. -/
theorem point_whole (c : Dev nD) (t : Fin cfg0.N) (q d : Fin 256) (i : S2x16384x8192.Idx)
    (h0 : (i 0).val = (ib t).val) (h1 : (i 1).val = (iq t).val * 256 + q.val)
    (h2 : (i 2).val = ((ik t).val * 8 + (ig t).val) * 256 + d.val) :
    KFrame.outAt (F := Idealize.ShloMosaic.Ideal) m c t (ix3 (0 : Fin 1) q d) = G m c i := by
  refine (point m c t q d).trans ?_
  unfold G whole
  congr 1
  · exact Fin.ext h0.symm
  · exact Fin.ext h1.symm
  · refine Fin.ext ?_
    show (ik t).val = (i 2).val / 2048
    omega
  · refine Fin.ext ?_
    show (ig t).val = (i 2).val / 256 % 8
    omega
  · refine Fin.ext ?_
    show d.val = (i 2).val % 256
    omega

/-- The result array after the run. -/
theorem final (c : Dev nD) : (KFrame.dats (F := Idealize.ShloMosaic.Ideal) m 0 c).arrAt 5 cfg0.N = G m c := by
  refine (KFrame.dats (F := Idealize.ShloMosaic.Ideal) m 0 c).arrAt_eq_of_covers 5 _ KIdx.covers fun t _ y => ?_
  blk_simp
  rw [KFrame.after0_5]
  have hy : (y : S1x256x256.Idx) = ix3 (0 : Fin 1) (y 1) (y 2) := by
    funext a
    match a with
    | ⟨0, _⟩ => exact Fin.ext (Nat.lt_one_iff.mp (y 0).isLt)
    | ⟨1, _⟩ => rfl
    | ⟨2, _⟩ => rfl
  refine (congrArg (KFrame.outAt (F := Idealize.ShloMosaic.Ideal) m c t) hy).trans
    (point_whole m c t (y 1) (y 2) _ ?_ ?_ ?_)
  all_goals blk_simp [KIdx.idx t]
  all_goals rfl

end Cert.KernelIdeal.KValue

end
-- ==== Proof.RRead.lean ====
/-
  The reference's two products and its softmax at the extended reals, index by index.
-/
module

public import proofs.«01_k».proof.Proof.Gen.ReferenceIdeal.Value
public import proofs.«01_k».proof.Proof.Spec

@[expose] public section

set_option maxRecDepth 16384

noncomputable section

namespace Cert.ReferenceIdeal.RRead

open Idealize.ShloMosaic Idealize.ShloMosaic.TcCoe Idealize.SL.Sem
open Cert.ReferenceIdeal Cert.ReferenceIdeal.Gen Cert.Softmax

/-- The reference's second product at an output element, from the codes `p` of the softmax. -/
theorem pay1_at (a4 : FVec Ideal S2x16384x1024 .fp8e4m3) (a5 : FVec Ideal S4 .f32) (p : FVec Ideal S2x4x8x16384x16384 .fp8e4m3)
    (b : Fin 2) (q : Fin 16384) (h : Fin 8192) :
    k0_pay1 (F := Ideal) (k0_pay2 a4) (k0_pay3 a5) p (ix3 b q h)
      = (∑ s : Fin 16384, a4 (ix3 b s ⟨h.val / 2048 * 256 + h.val % 256, by omega⟩)
          * p (ix5 b ⟨h.val / 2048, by omega⟩ ⟨h.val / 256 % 8, by omega⟩ q s))
        * (a5 (ix1 ⟨h.val / 2048, by omega⟩) * Ideal.ofBits .f32 0x3B800000#32) := by
  pointwise [k0_pay1, k0_pay2, k0_pay3]

/-- The reference's codes of the softmax: `Spec.code` of the scores. -/
theorem pay4_at (a0 : FVec Ideal S2x16384x8192 .fp8e4m3) (a2 : FVec Ideal S2x16384x1024 .fp8e4m3) (a1 : FVec Ideal S32 .f32) (a3 : FVec Ideal S4 .f32)
    (b : Fin 2) (k : Fin 4) (g : Fin 8) (q s : Fin 16384) :
    k0_pay4 (F := Ideal) a0 a2 a1 a3 (ix5 b k g q s) = Spec.code (Spec.score a0 a1 a2 a3 b k g q) s := by
  pointwise [k0_pay4]
  rw [ofBits_neg_inf]
  rfl

end Cert.ReferenceIdeal.RRead

end
-- ==== Proof.RResult.lean ====
/-
  The reference's result at the extended reals is `Spec.result`, element by element.
-/
module

public import proofs.«01_k».proof.Proof.Gen.ReferenceIdeal.Value
public import proofs.«01_k».proof.Proof.RRead

@[expose] public section

set_option maxRecDepth 16384

noncomputable section

namespace Cert.ReferenceIdeal.RResult

open Idealize.ShloMosaic Idealize.ShloMosaic.TcCoe Idealize.SL.Sem
open Cert.ReferenceIdeal Cert.ReferenceIdeal.Gen Cert.Softmax

/-- The reference's result at column `d` of head `8 * k + g`. -/
theorem result_at (a0 : FVec Ideal S2x16384x8192 .fp8e4m3) (a1 : FVec Ideal S32 .f32) (a2 : FVec Ideal S2x16384x1024 .fp8e4m3) (a3 : FVec Ideal S4 .f32)
    (a4 : FVec Ideal S2x16384x1024 .fp8e4m3) (a5 : FVec Ideal S4 .f32)
    (b : Fin 2) (q : Fin 16384) (k : Fin 4) (g : Fin 8) (d : Fin 256) (h : Fin 8192) (hh : h.val = (k.val * 8 + g.val) * 256 + d.val) :
    Value.G6 (F := Ideal) a0 a1 a2 a3 a4 a5 (ix3 b q h) = Spec.result a0 a1 a2 a3 a4 a5 b q k g d := by
  refine (RRead.pay1_at a4 a5 _ b q h).trans ?_
  have hk : (⟨h.val / 2048, by omega⟩ : Fin 4) = k := Fin.ext (by show h.val / 2048 = k.val; omega)
  have hg : (⟨h.val / 256 % 8, by omega⟩ : Fin 8) = g := Fin.ext (by show h.val / 256 % 8 = g.val; omega)
  have hd : (⟨h.val / 2048 * 256 + h.val % 256, by omega⟩ : Fin 1024) = ⟨k.val * 256 + d.val, by omega⟩ :=
    Fin.ext (by show h.val / 2048 * 256 + h.val % 256 = k.val * 256 + d.val; omega)
  rw [hk, hg, hd]
  unfold Spec.result
  simp only [RRead.pay4_at]

end Cert.ReferenceIdeal.RResult

end
-- ==== Proof.Algebraic.lean ====
/-
  The value claim: over the extended reals the kernel's run and the reference's run end with the same result array.
-/
module

public import proofs.«01_k».proof.Defs
public import proofs.«01_k».proof.Proof.KValue
public import proofs.«01_k».proof.Proof.RResult

@[expose] public section

set_option maxRecDepth 16384

noncomputable section

namespace Cert.KernelIdeal.Algebraic

open Idealize.ShloMosaic Idealize.ShloMosaic.TcCoe Idealize.SL.Sem
open Cert.KernelIdeal Cert.KernelIdeal.Gen

variable (m : (ℓ : Loc nD τ sig) → Buf (Elt Idealize.ShloMosaic.Ideal) ℓ) (ρ : Dev nD → PrngReg)

/-- The kernel's run ends with the result array at the mathematics of the arguments. -/
theorem result : θ_run defs (onTc (τ := τ) (main (F := Idealize.ShloMosaic.Ideal))) ⟨m, fun _ => 0, ρ⟩ (fun r => ∀ c : Dev nD,
      r.2.mem ((c.tc : Thread nD τ).loc main_v11) = KValue.G m c) :=
  (θ_run defs _ _).mono (fun _ h c => ((h c).1 5).trans (KValue.final m c)) (KFrame.run_main m ρ)

/-- The kernel's run ends with the result array at the mathematics of the arguments, and the arguments unchanged. -/
theorem run : θ_run defs (onTc (τ := τ) (main (F := Idealize.ShloMosaic.Ideal))) ⟨m, fun _ => 0, ρ⟩ (fun r => ∀ c : Dev nD,
      r.2.mem ((c.tc : Thread nD τ).loc main_v11) = KValue.G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h.1 c, h.2 c⟩) (θ_run_and (result m ρ) (KFrame.unchanged m ρ))

/-- The reference's array of the arguments is the same mathematics, element by element. -/
theorem reference_eq (a0 : FVec Idealize.ShloMosaic.Ideal S2x16384x8192 .fp8e4m3) (a1 : FVec Idealize.ShloMosaic.Ideal S32 .f32)
    (a2 : FVec Idealize.ShloMosaic.Ideal S2x16384x1024 .fp8e4m3) (a3 : FVec Idealize.ShloMosaic.Ideal S4 .f32)
    (a4 : FVec Idealize.ShloMosaic.Ideal S2x16384x1024 .fp8e4m3) (a5 : FVec Idealize.ShloMosaic.Ideal S4 .f32)
    (b : Fin 2) (q : Fin 16384) (h : Fin 8192) :
    Cert.ReferenceIdeal.Value.G6 (F := Idealize.ShloMosaic.Ideal) a0 a1 a2 a3 a4 a5 (ix3 b q h) = KValue.whole a0 a1 a2 a3 a4 a5 b q h :=
  Cert.ReferenceIdeal.RResult.result_at a0 a1 a2 a3 a4 a5 b q _ _ _ h (by
    show h.val = (h.val / 2048 * 8 + h.val / 256 % 8) * 256 + h.val % 256
    omega)

/-- So the reference's array of the kernel's arguments is the kernel's result. -/
theorem reference_array (c : Dev nD) :
    Cert.ReferenceIdeal.Value.G6 (F := Idealize.ShloMosaic.Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = KValue.G m c := by
  funext i
  have hi : i = ix3 (i 0) (i 1) (i 2) := by
    funext a
    match a with
    | ⟨0, _⟩ => rfl
    | ⟨1, _⟩ => rfl
    | ⟨2, _⟩ => rfl
  exact (congrArg _ hi).trans (reference_eq _ _ _ _ _ _ (i 0) (i 1) (i 2))

/-- The value claim: from memories that agree on the arguments, both runs end with equal result arrays, whatever the
    arguments hold. -/
theorem algebraic : Cert.algebraic_KernelIdeal_ReferenceIdeal := by
  intro m g m' g' _ hargs
  refine ⟨fun c => KValue.G m c, run m g, ?_⟩
  refine (θ_run _ _ _).mono (fun r h c => ⟨(h c).1.trans ?_, (h c).2⟩) (Cert.ReferenceIdeal.Value.run m' g')
  obtain ⟨h0, h1, h2, h3, h4, h5⟩ := hargs c
  rw [h0, h1, h2, h3, h4, h5]
  exact reference_array m c

end Cert.KernelIdeal.Algebraic

end
-- ==== Proof.lean ====
module

public import proofs.«01_k».proof.Defs
public import proofs.«01_k».proof.Proof.Gen.Kernel
public import proofs.«01_k».proof.Proof.PFrame
public import proofs.«01_k».proof.Proof.Gen.KernelIdeal
public import proofs.«01_k».proof.Proof.KFrame
public import proofs.«01_k».proof.Proof.Algebraic
public import proofs.«01_k».proof.Proof.Gen.ReferenceIdeal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

/-- Everything that is claimed: the three programs run to the end and leave their arguments and counters as they found
    them; the idealized kernel differs from the kernel only in the named constant; and over the extended reals the
    idealized kernel and the reference end with the same result array. -/
theorem claim : Cert.Claim :=
  ⟨Cert.Kernel.Gen.facts, Cert.KernelIdeal.Gen.facts, Cert.ReferenceIdeal.Gen.facts,
    fun m ρ _ => Cert.Kernel.PFrame.frame m ρ,
    fun m ρ _ => Cert.KernelIdeal.KFrame.frame m ρ,
    fun m ρ _ => Cert.ReferenceIdeal.Gen.frame m ρ,
    IdealRules.named_const.statement Cert.KernelIdeal.κ "log2e" .f32 0x3FB8AA3B#32 (((Real.log 2)⁻¹ : ℝ) : EReal) rfl,
    Cert.KernelIdeal.Algebraic.algebraic⟩

end Cert.Proof

end
